-- ==== Defs.lean ====
def Pre_Stats [hPre_classes_in_range : Cert.Pre_classes_in_range.Facts] (m : (ℓ : Loc Cert.Stats.nD Cert.Stats.τ Cert.Stats.sig) → Buf (Elt Bits) ℓ) : Prop :=
  ∀ c : Dev Cert.Stats.nD,
    (Cert.Pre_classes_in_range.fn (F := Bits) (m ((c.tc : Thread Cert.Stats.nD Cert.Stats.τ).loc Cert.Stats.main_arg0)) (m ((c.tc : Thread Cert.Stats.nD Cert.Stats.τ).loc Cert.Stats.main_arg1)) (m ((c.tc : Thread Cert.Stats.nD Cert.Stats.τ).loc Cert.Stats.main_arg2))) = (fun _ => 1#1)

def Pre_StatsIdeal [hPre_classes_in_range : Cert.Pre_classes_in_range.Facts] (m : (ℓ : Loc Cert.StatsIdeal.nD Cert.StatsIdeal.τ Cert.StatsIdeal.sig) → Buf (Elt Ideal) ℓ) : Prop :=
  ∀ c : Dev Cert.StatsIdeal.nD,
    (Cert.Pre_classes_in_range.fn (F := Ideal) (m ((c.tc : Thread Cert.StatsIdeal.nD Cert.StatsIdeal.τ).loc Cert.StatsIdeal.main_arg0)) (m ((c.tc : Thread Cert.StatsIdeal.nD Cert.StatsIdeal.τ).loc Cert.StatsIdeal.main_arg1)) (m ((c.tc : Thread Cert.StatsIdeal.nD Cert.StatsIdeal.τ).loc Cert.StatsIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_classes_in_range [hPre_classes_in_range : Cert.Pre_classes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_classes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Crop (m : (ℓ : Loc Cert.Crop.nD Cert.Crop.τ Cert.Crop.sig) → Buf (Elt Bits) ℓ) : Prop :=
  True

def Pre_CropIdeal (m : (ℓ : Loc Cert.CropIdeal.nD Cert.CropIdeal.τ Cert.CropIdeal.sig) → Buf (Elt Ideal) ℓ) : Prop :=
  True

def Pre_CropIdeal_heights_in_window [hPre_heights_in_window : Cert.Pre_heights_in_window.Facts] (m : (ℓ : Loc Cert.CropIdeal.nD Cert.CropIdeal.τ Cert.CropIdeal.sig) → Buf (Elt Ideal) ℓ) : Prop :=
  ∀ c : Dev Cert.CropIdeal.nD,
    (Cert.Pre_heights_in_window.fn (F := Ideal) (m ((c.tc : Thread Cert.CropIdeal.nD Cert.CropIdeal.τ).loc Cert.CropIdeal.main_arg0)) (m ((c.tc : Thread Cert.CropIdeal.nD Cert.CropIdeal.τ).loc Cert.CropIdeal.main_arg1))) = (fun _ => 1#1)

def Pre_CropReferenceIdeal (m : (ℓ : Loc Cert.CropReferenceIdeal.nD Cert.CropReferenceIdeal.τ Cert.CropReferenceIdeal.sig) → Buf (Elt Ideal) ℓ) : Prop :=
  True

def Pre_CropReferenceIdeal_heights_in_window [hPre_heights_in_window : Cert.Pre_heights_in_window.Facts] (m : (ℓ : Loc Cert.CropReferenceIdeal.nD Cert.CropReferenceIdeal.τ Cert.CropReferenceIdeal.sig) → Buf (Elt Ideal) ℓ) : Prop :=
  ∀ c : Dev Cert.CropReferenceIdeal.nD,
    (Cert.Pre_heights_in_window.fn (F := Ideal) (m ((c.tc : Thread Cert.CropReferenceIdeal.nD Cert.CropReferenceIdeal.τ).loc Cert.CropReferenceIdeal.main_arg0)) (m ((c.tc : Thread Cert.CropReferenceIdeal.nD Cert.CropReferenceIdeal.τ).loc Cert.CropReferenceIdeal.main_arg1))) = (fun _ => 1#1)

def Pre_Match (m : (ℓ : Loc Cert.Match.nD Cert.Match.τ Cert.Match.sig) → Buf (Elt Bits) ℓ) : Prop :=
  True

def Pre_MatchIdeal (m : (ℓ : Loc Cert.MatchIdeal.nD Cert.MatchIdeal.τ Cert.MatchIdeal.sig) → Buf (Elt Ideal) ℓ) : Prop :=
  True

def quiescent_Stats [hStats : Cert.Stats.Facts] [hPre_classes_in_range : Cert.Pre_classes_in_range.Facts] : Prop :=
  ∀ (m : (ℓ : Loc Cert.Stats.nD Cert.Stats.τ Cert.Stats.sig) → Buf (Elt Bits) ℓ) (g : Dev Cert.Stats.nD → PrngReg), Pre_Stats m →
    θ_run (Cert.Stats.defs (F := Bits)) (onTc (τ := Cert.Stats.τ) (Cert.Stats.main (F := Bits))) ⟨m, fun _ => 0, g⟩ (fun r => (∀ c : Dev Cert.Stats.nD,
      r.2.mem ((c.tc : Thread Cert.Stats.nD Cert.Stats.τ).loc Cert.Stats.main_arg0) = m ((c.tc : Thread Cert.Stats.nD Cert.Stats.τ).loc Cert.Stats.main_arg0)
      ∧ r.2.mem ((c.tc : Thread Cert.Stats.nD Cert.Stats.τ).loc Cert.Stats.main_arg1) = m ((c.tc : Thread Cert.Stats.nD Cert.Stats.τ).loc Cert.Stats.main_arg1)
      ∧ r.2.mem ((c.tc : Thread Cert.Stats.nD Cert.Stats.τ).loc Cert.Stats.main_arg2) = m ((c.tc : Thread Cert.Stats.nD Cert.Stats.τ).loc Cert.Stats.main_arg2))
      ∧ r.2.sem = fun _ => 0)

def quiescent_StatsIdeal [hStatsIdeal : Cert.StatsIdeal.Facts] [hPre_classes_in_range : Cert.Pre_classes_in_range.Facts] : Prop :=
  ∀ (m : (ℓ : Loc Cert.StatsIdeal.nD Cert.StatsIdeal.τ Cert.StatsIdeal.sig) → Buf (Elt Ideal) ℓ) (g : Dev Cert.StatsIdeal.nD → PrngReg), Pre_StatsIdeal m →
    θ_run (Cert.StatsIdeal.defs (F := Ideal)) (onTc (τ := Cert.StatsIdeal.τ) (Cert.StatsIdeal.main (F := Ideal))) ⟨m, fun _ => 0, g⟩ (fun r => (∀ c : Dev Cert.StatsIdeal.nD,
      r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
      ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
      ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_classes_in_range [hReferenceIdeal : Cert.ReferenceIdeal.Facts] [hPre_classes_in_range : Cert.Pre_classes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_classes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Crop [hCrop : Cert.Crop.Facts] : Prop :=
  ∀ (m : (ℓ : Loc Cert.Crop.nD Cert.Crop.τ Cert.Crop.sig) → Buf (Elt Bits) ℓ) (g : Dev Cert.Crop.nD → PrngReg), Pre_Crop m →
    θ_run (Cert.Crop.defs (F := Bits)) (onTc (τ := Cert.Crop.τ) (Cert.Crop.main (F := Bits))) ⟨m, fun _ => 0, g⟩ (fun r => (∀ c : Dev Cert.Crop.nD,
      r.2.mem ((c.tc : Thread Cert.Crop.nD Cert.Crop.τ).loc Cert.Crop.main_arg0) = m ((c.tc : Thread Cert.Crop.nD Cert.Crop.τ).loc Cert.Crop.main_arg0)
      ∧ r.2.mem ((c.tc : Thread Cert.Crop.nD Cert.Crop.τ).loc Cert.Crop.main_arg1) = m ((c.tc : Thread Cert.Crop.nD Cert.Crop.τ).loc Cert.Crop.main_arg1))
      ∧ r.2.sem = fun _ => 0)

def quiescent_CropIdeal [hCropIdeal : Cert.CropIdeal.Facts] : Prop :=
  ∀ (m : (ℓ : Loc Cert.CropIdeal.nD Cert.CropIdeal.τ Cert.CropIdeal.sig) → Buf (Elt Ideal) ℓ) (g : Dev Cert.CropIdeal.nD → PrngReg), Pre_CropIdeal m →
    θ_run (Cert.CropIdeal.defs (F := Ideal)) (onTc (τ := Cert.CropIdeal.τ) (Cert.CropIdeal.main (F := Ideal))) ⟨m, fun _ => 0, g⟩ (fun r => (∀ c : Dev Cert.CropIdeal.nD,
      r.2.mem ((c.tc : Thread Cert.CropIdeal.nD Cert.CropIdeal.τ).loc Cert.CropIdeal.main_arg0) = m ((c.tc : Thread Cert.CropIdeal.nD Cert.CropIdeal.τ).loc Cert.CropIdeal.main_arg0)
      ∧ r.2.mem ((c.tc : Thread Cert.CropIdeal.nD Cert.CropIdeal.τ).loc Cert.CropIdeal.main_arg1) = m ((c.tc : Thread Cert.CropIdeal.nD Cert.CropIdeal.τ).loc Cert.CropIdeal.main_arg1))
      ∧ r.2.sem = fun _ => 0)

def quiescent_CropIdeal_pre_heights_in_window [hCropIdeal : Cert.CropIdeal.Facts] [hPre_heights_in_window : Cert.Pre_heights_in_window.Facts] : Prop :=
  ∀ (m : (ℓ : Loc Cert.CropIdeal.nD Cert.CropIdeal.τ Cert.CropIdeal.sig) → Buf (Elt Ideal) ℓ) (g : Dev Cert.CropIdeal.nD → PrngReg), Pre_CropIdeal_heights_in_window m →
    θ_run (Cert.CropIdeal.defs (F := Ideal)) (onTc (τ := Cert.CropIdeal.τ) (Cert.CropIdeal.main (F := Ideal))) ⟨m, fun _ => 0, g⟩ (fun r => (∀ c : Dev Cert.CropIdeal.nD,
      r.2.mem ((c.tc : Thread Cert.CropIdeal.nD Cert.CropIdeal.τ).loc Cert.CropIdeal.main_arg0) = m ((c.tc : Thread Cert.CropIdeal.nD Cert.CropIdeal.τ).loc Cert.CropIdeal.main_arg0)
      ∧ r.2.mem ((c.tc : Thread Cert.CropIdeal.nD Cert.CropIdeal.τ).loc Cert.CropIdeal.main_arg1) = m ((c.tc : Thread Cert.CropIdeal.nD Cert.CropIdeal.τ).loc Cert.CropIdeal.main_arg1))
      ∧ r.2.sem = fun _ => 0)

def quiescent_CropReferenceIdeal [hCropReferenceIdeal : Cert.CropReferenceIdeal.Facts] : Prop :=
  ∀ (m : (ℓ : Loc Cert.CropReferenceIdeal.nD Cert.CropReferenceIdeal.τ Cert.CropReferenceIdeal.sig) → Buf (Elt Ideal) ℓ) (g : Dev Cert.CropReferenceIdeal.nD → PrngReg), Pre_CropReferenceIdeal m →
    θ_run (Cert.CropReferenceIdeal.defs (F := Ideal)) (onTc (τ := Cert.CropReferenceIdeal.τ) (Cert.CropReferenceIdeal.main (F := Ideal))) ⟨m, fun _ => 0, g⟩ (fun r => (∀ c : Dev Cert.CropReferenceIdeal.nD,
      r.2.mem ((c.tc : Thread Cert.CropReferenceIdeal.nD Cert.CropReferenceIdeal.τ).loc Cert.CropReferenceIdeal.main_arg0) = m ((c.tc : Thread Cert.CropReferenceIdeal.nD Cert.CropReferenceIdeal.τ).loc Cert.CropReferenceIdeal.main_arg0)
      ∧ r.2.mem ((c.tc : Thread Cert.CropReferenceIdeal.nD Cert.CropReferenceIdeal.τ).loc Cert.CropReferenceIdeal.main_arg1) = m ((c.tc : Thread Cert.CropReferenceIdeal.nD Cert.CropReferenceIdeal.τ).loc Cert.CropReferenceIdeal.main_arg1))
      ∧ r.2.sem = fun _ => 0)

def quiescent_CropReferenceIdeal_pre_heights_in_window [hCropReferenceIdeal : Cert.CropReferenceIdeal.Facts] [hPre_heights_in_window : Cert.Pre_heights_in_window.Facts] : Prop :=
  ∀ (m : (ℓ : Loc Cert.CropReferenceIdeal.nD Cert.CropReferenceIdeal.τ Cert.CropReferenceIdeal.sig) → Buf (Elt Ideal) ℓ) (g : Dev Cert.CropReferenceIdeal.nD → PrngReg), Pre_CropReferenceIdeal_heights_in_window m →
    θ_run (Cert.CropReferenceIdeal.defs (F := Ideal)) (onTc (τ := Cert.CropReferenceIdeal.τ) (Cert.CropReferenceIdeal.main (F := Ideal))) ⟨m, fun _ => 0, g⟩ (fun r => (∀ c : Dev Cert.CropReferenceIdeal.nD,
      r.2.mem ((c.tc : Thread Cert.CropReferenceIdeal.nD Cert.CropReferenceIdeal.τ).loc Cert.CropReferenceIdeal.main_arg0) = m ((c.tc : Thread Cert.CropReferenceIdeal.nD Cert.CropReferenceIdeal.τ).loc Cert.CropReferenceIdeal.main_arg0)
      ∧ r.2.mem ((c.tc : Thread Cert.CropReferenceIdeal.nD Cert.CropReferenceIdeal.τ).loc Cert.CropReferenceIdeal.main_arg1) = m ((c.tc : Thread Cert.CropReferenceIdeal.nD Cert.CropReferenceIdeal.τ).loc Cert.CropReferenceIdeal.main_arg1))
      ∧ r.2.sem = fun _ => 0)

def quiescent_Match [hMatch : Cert.Match.Facts] : Prop :=
  ∀ (m : (ℓ : Loc Cert.Match.nD Cert.Match.τ Cert.Match.sig) → Buf (Elt Bits) ℓ) (g : Dev Cert.Match.nD → PrngReg), Pre_Match m →
    θ_run (Cert.Match.defs (F := Bits)) (onTc (τ := Cert.Match.τ) (Cert.Match.main (F := Bits))) ⟨m, fun _ => 0, g⟩ (fun r => (∀ c : Dev Cert.Match.nD,
      r.2.mem ((c.tc : Thread Cert.Match.nD Cert.Match.τ).loc Cert.Match.main_arg0) = m ((c.tc : Thread Cert.Match.nD Cert.Match.τ).loc Cert.Match.main_arg0)
      ∧ r.2.mem ((c.tc : Thread Cert.Match.nD Cert.Match.τ).loc Cert.Match.main_arg1) = m ((c.tc : Thread Cert.Match.nD Cert.Match.τ).loc Cert.Match.main_arg1)
      ∧ r.2.mem ((c.tc : Thread Cert.Match.nD Cert.Match.τ).loc Cert.Match.main_arg2) = m ((c.tc : Thread Cert.Match.nD Cert.Match.τ).loc Cert.Match.main_arg2)
      ∧ r.2.mem ((c.tc : Thread Cert.Match.nD Cert.Match.τ).loc Cert.Match.main_arg3) = m ((c.tc : Thread Cert.Match.nD Cert.Match.τ).loc Cert.Match.main_arg3)
      ∧ r.2.mem ((c.tc : Thread Cert.Match.nD Cert.Match.τ).loc Cert.Match.main_arg4) = m ((c.tc : Thread Cert.Match.nD Cert.Match.τ).loc Cert.Match.main_arg4)
      ∧ r.2.mem ((c.tc : Thread Cert.Match.nD Cert.Match.τ).loc Cert.Match.main_arg5) = m ((c.tc : Thread Cert.Match.nD Cert.Match.τ).loc Cert.Match.main_arg5)
      ∧ r.2.mem ((c.tc : Thread Cert.Match.nD Cert.Match.τ).loc Cert.Match.main_arg6) = m ((c.tc : Thread Cert.Match.nD Cert.Match.τ).loc Cert.Match.main_arg6)
      ∧ r.2.mem ((c.tc : Thread Cert.Match.nD Cert.Match.τ).loc Cert.Match.main_arg7) = m ((c.tc : Thread Cert.Match.nD Cert.Match.τ).loc Cert.Match.main_arg7))
      ∧ r.2.sem = fun _ => 0)

def quiescent_MatchIdeal [hMatchIdeal : Cert.MatchIdeal.Facts] : Prop :=
  ∀ (m : (ℓ : Loc Cert.MatchIdeal.nD Cert.MatchIdeal.τ Cert.MatchIdeal.sig) → Buf (Elt Ideal) ℓ) (g : Dev Cert.MatchIdeal.nD → PrngReg), Pre_MatchIdeal m →
    θ_run (Cert.MatchIdeal.defs (F := Ideal)) (onTc (τ := Cert.MatchIdeal.τ) (Cert.MatchIdeal.main (F := Ideal))) ⟨m, fun _ => 0, g⟩ (fun r => (∀ c : Dev Cert.MatchIdeal.nD,
      r.2.mem ((c.tc : Thread Cert.MatchIdeal.nD Cert.MatchIdeal.τ).loc Cert.MatchIdeal.main_arg0) = m ((c.tc : Thread Cert.MatchIdeal.nD Cert.MatchIdeal.τ).loc Cert.MatchIdeal.main_arg0)
      ∧ r.2.mem ((c.tc : Thread Cert.MatchIdeal.nD Cert.MatchIdeal.τ).loc Cert.MatchIdeal.main_arg1) = m ((c.tc : Thread Cert.MatchIdeal.nD Cert.MatchIdeal.τ).loc Cert.MatchIdeal.main_arg1)
      ∧ r.2.mem ((c.tc : Thread Cert.MatchIdeal.nD Cert.MatchIdeal.τ).loc Cert.MatchIdeal.main_arg2) = m ((c.tc : Thread Cert.MatchIdeal.nD Cert.MatchIdeal.τ).loc Cert.MatchIdeal.main_arg2)
      ∧ r.2.mem ((c.tc : Thread Cert.MatchIdeal.nD Cert.MatchIdeal.τ).loc Cert.MatchIdeal.main_arg3) = m ((c.tc : Thread Cert.MatchIdeal.nD Cert.MatchIdeal.τ).loc Cert.MatchIdeal.main_arg3)
      ∧ r.2.mem ((c.tc : Thread Cert.MatchIdeal.nD Cert.MatchIdeal.τ).loc Cert.MatchIdeal.main_arg4) = m ((c.tc : Thread Cert.MatchIdeal.nD Cert.MatchIdeal.τ).loc Cert.MatchIdeal.main_arg4)
      ∧ r.2.mem ((c.tc : Thread Cert.MatchIdeal.nD Cert.MatchIdeal.τ).loc Cert.MatchIdeal.main_arg5) = m ((c.tc : Thread Cert.MatchIdeal.nD Cert.MatchIdeal.τ).loc Cert.MatchIdeal.main_arg5)
      ∧ r.2.mem ((c.tc : Thread Cert.MatchIdeal.nD Cert.MatchIdeal.τ).loc Cert.MatchIdeal.main_arg6) = m ((c.tc : Thread Cert.MatchIdeal.nD Cert.MatchIdeal.τ).loc Cert.MatchIdeal.main_arg6)
      ∧ r.2.mem ((c.tc : Thread Cert.MatchIdeal.nD Cert.MatchIdeal.τ).loc Cert.MatchIdeal.main_arg7) = m ((c.tc : Thread Cert.MatchIdeal.nD Cert.MatchIdeal.τ).loc Cert.MatchIdeal.main_arg7))
      ∧ r.2.sem = fun _ => 0)

def preserves_Stats_StatsIdeal : Prop :=
  True

def algebraic_StatsIdeal_ReferenceIdeal [hStatsIdeal : Cert.StatsIdeal.Facts] [hReferenceIdeal : Cert.ReferenceIdeal.Facts] [hPre_classes_in_range : Cert.Pre_classes_in_range.Facts] : Prop :=
  ∀ (m : (ℓ : Loc Cert.StatsIdeal.nD Cert.StatsIdeal.τ Cert.StatsIdeal.sig) → Buf (Elt Ideal) ℓ) (g : Dev Cert.StatsIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_StatsIdeal m →
    (∀ c : Dev Cert.StatsIdeal.nD,
      m' ((c.tc : Thread Cert.ReferenceIdeal.nD Cert.ReferenceIdeal.τ).loc Cert.ReferenceIdeal.main_arg0) = m ((c.tc : Thread Cert.StatsIdeal.nD Cert.StatsIdeal.τ).loc Cert.StatsIdeal.main_arg0)
      ∧ m' ((c.tc : Thread Cert.ReferenceIdeal.nD Cert.ReferenceIdeal.τ).loc Cert.ReferenceIdeal.main_arg1) = m ((c.tc : Thread Cert.StatsIdeal.nD Cert.StatsIdeal.τ).loc Cert.StatsIdeal.main_arg1)
      ∧ m' ((c.tc : Thread Cert.ReferenceIdeal.nD Cert.ReferenceIdeal.τ).loc Cert.ReferenceIdeal.main_arg2) = m ((c.tc : Thread Cert.StatsIdeal.nD Cert.StatsIdeal.τ).loc Cert.StatsIdeal.main_arg2)) →
    ∃ (v0 : (c : Dev Cert.StatsIdeal.nD) → Buf (Elt Ideal) ((c.tc : Thread Cert.StatsIdeal.nD Cert.StatsIdeal.τ).loc Cert.StatsIdeal.main_v2_0)) (v1 : (c : Dev Cert.StatsIdeal.nD) → Buf (Elt Ideal) ((c.tc : Thread Cert.StatsIdeal.nD Cert.StatsIdeal.τ).loc Cert.StatsIdeal.main_v2_1)),
      θ_run (Cert.StatsIdeal.defs (F := Ideal)) (onTc (τ := Cert.StatsIdeal.τ) (Cert.StatsIdeal.main (F := Ideal))) ⟨m, fun _ => 0, g⟩ (fun r => ∀ c : Dev Cert.StatsIdeal.nD,
          r.2.mem ((c.tc : Thread Cert.StatsIdeal.nD Cert.StatsIdeal.τ).loc Cert.StatsIdeal.main_v2_0) = v0 c
          ∧ r.2.mem ((c.tc : Thread Cert.StatsIdeal.nD Cert.StatsIdeal.τ).loc Cert.StatsIdeal.main_v2_1) = v1 c
          ∧ r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
          ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
          ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Crop_CropIdeal : Prop :=
  IdealRules.named_const.Statement Cert.CropIdeal.κ "inv28" .f32 0x3D124925#32 ((28⁻¹ : ℝ) : EReal)

def algebraic_CropIdeal_CropReferenceIdeal_pre_heights_in_window [hCropIdeal : Cert.CropIdeal.Facts] [hCropReferenceIdeal : Cert.CropReferenceIdeal.Facts] [hPre_heights_in_window : Cert.Pre_heights_in_window.Facts] : Prop :=
  ∀ (m : (ℓ : Loc Cert.CropIdeal.nD Cert.CropIdeal.τ Cert.CropIdeal.sig) → Buf (Elt Ideal) ℓ) (g : Dev Cert.CropIdeal.nD → PrngReg)
    (m' : (ℓ : Loc Cert.CropReferenceIdeal.nD Cert.CropReferenceIdeal.τ Cert.CropReferenceIdeal.sig) → Buf (Elt Ideal) ℓ) (g' : Dev Cert.CropReferenceIdeal.nD → PrngReg), Pre_CropIdeal_heights_in_window m →
    (∀ c : Dev Cert.CropIdeal.nD,
      m' ((c.tc : Thread Cert.CropReferenceIdeal.nD Cert.CropReferenceIdeal.τ).loc Cert.CropReferenceIdeal.main_arg0) = m ((c.tc : Thread Cert.CropIdeal.nD Cert.CropIdeal.τ).loc Cert.CropIdeal.main_arg0)
      ∧ m' ((c.tc : Thread Cert.CropReferenceIdeal.nD Cert.CropReferenceIdeal.τ).loc Cert.CropReferenceIdeal.main_arg1) = m ((c.tc : Thread Cert.CropIdeal.nD Cert.CropIdeal.τ).loc Cert.CropIdeal.main_arg1)) →
    ∃ (v0 : (c : Dev Cert.CropIdeal.nD) → Buf (Elt Ideal) ((c.tc : Thread Cert.CropIdeal.nD Cert.CropIdeal.τ).loc Cert.CropIdeal.main_v2)),
      θ_run (Cert.CropIdeal.defs (F := Ideal)) (onTc (τ := Cert.CropIdeal.τ) (Cert.CropIdeal.main (F := Ideal))) ⟨m, fun _ => 0, g⟩ (fun r => ∀ c : Dev Cert.CropIdeal.nD,
          r.2.mem ((c.tc : Thread Cert.CropIdeal.nD Cert.CropIdeal.τ).loc Cert.CropIdeal.main_v2) = v0 c
          ∧ r.2.mem ((c.tc : Thread Cert.CropIdeal.nD Cert.CropIdeal.τ).loc Cert.CropIdeal.main_arg0) = m ((c.tc : Thread Cert.CropIdeal.nD Cert.CropIdeal.τ).loc Cert.CropIdeal.main_arg0)
          ∧ r.2.mem ((c.tc : Thread Cert.CropIdeal.nD Cert.CropIdeal.τ).loc Cert.CropIdeal.main_arg1) = m ((c.tc : Thread Cert.CropIdeal.nD Cert.CropIdeal.τ).loc Cert.CropIdeal.main_arg1))
      ∧ θ_run (Cert.CropReferenceIdeal.defs (F := Ideal)) (onTc (τ := Cert.CropReferenceIdeal.τ) (Cert.CropReferenceIdeal.main (F := Ideal))) ⟨m', fun _ => 0, g'⟩ (fun r => ∀ c : Dev Cert.CropReferenceIdeal.nD,
          r.2.mem ((c.tc : Thread Cert.CropReferenceIdeal.nD Cert.CropReferenceIdeal.τ).loc Cert.CropReferenceIdeal.main_v53) = v0 c
          ∧ r.2.mem ((c.tc : Thread Cert.CropReferenceIdeal.nD Cert.CropReferenceIdeal.τ).loc Cert.CropReferenceIdeal.main_arg0) = m' ((c.tc : Thread Cert.CropReferenceIdeal.nD Cert.CropReferenceIdeal.τ).loc Cert.CropReferenceIdeal.main_arg0)
          ∧ r.2.mem ((c.tc : Thread Cert.CropReferenceIdeal.nD Cert.CropReferenceIdeal.τ).loc Cert.CropReferenceIdeal.main_arg1) = m' ((c.tc : Thread Cert.CropReferenceIdeal.nD Cert.CropReferenceIdeal.τ).loc Cert.CropReferenceIdeal.main_arg1))

def preserves_Match_MatchIdeal : Prop :=
  True

def Claim : Prop :=
  ∃ (hStats : Cert.Stats.Facts) (hStatsIdeal : Cert.StatsIdeal.Facts) (hReferenceIdeal : Cert.ReferenceIdeal.Facts) (hCrop : Cert.Crop.Facts) (hCropIdeal : Cert.CropIdeal.Facts) (hCropReferenceIdeal : Cert.CropReferenceIdeal.Facts) (hMatch : Cert.Match.Facts) (hMatchIdeal : Cert.MatchIdeal.Facts) (hPre_classes_in_range : Cert.Pre_classes_in_range.Facts) (hPre_heights_in_window : Cert.Pre_heights_in_window.Facts),
    quiescent_Stats (hStats := hStats) (hPre_classes_in_range := hPre_classes_in_range)
    ∧ quiescent_StatsIdeal (hStatsIdeal := hStatsIdeal) (hPre_classes_in_range := hPre_classes_in_range)
    ∧ quiescent_ReferenceIdeal (hReferenceIdeal := hReferenceIdeal)
    ∧ quiescent_ReferenceIdeal_pre_classes_in_range (hReferenceIdeal := hReferenceIdeal) (hPre_classes_in_range := hPre_classes_in_range)
    ∧ quiescent_Crop (hCrop := hCrop)
    ∧ quiescent_CropIdeal (hCropIdeal := hCropIdeal)
    ∧ quiescent_CropIdeal_pre_heights_in_window (hCropIdeal := hCropIdeal) (hPre_heights_in_window := hPre_heights_in_window)
    ∧ quiescent_CropReferenceIdeal (hCropReferenceIdeal := hCropReferenceIdeal)
    ∧ quiescent_CropReferenceIdeal_pre_heights_in_window (hCropReferenceIdeal := hCropReferenceIdeal) (hPre_heights_in_window := hPre_heights_in_window)
    ∧ quiescent_Match (hMatch := hMatch)
    ∧ quiescent_MatchIdeal (hMatchIdeal := hMatchIdeal)
    ∧ preserves_Stats_StatsIdeal
    ∧ algebraic_StatsIdeal_ReferenceIdeal (hStatsIdeal := hStatsIdeal) (hReferenceIdeal := hReferenceIdeal) (hPre_classes_in_range := hPre_classes_in_range)
    ∧ preserves_Crop_CropIdeal
    ∧ algebraic_CropIdeal_CropReferenceIdeal_pre_heights_in_window (hCropIdeal := hCropIdeal) (hCropReferenceIdeal := hCropReferenceIdeal) (hPre_heights_in_window := hPre_heights_in_window)
    ∧ preserves_Match_MatchIdeal
-- ==== Pre_classes_in_range.lean ====
abbrev S4x500x80x28x28 : Shape := ⟨5, ![4, 500, 80, 28, 28]⟩
abbrev S64x28x28 : Shape := ⟨3, ![64, 28, 28]⟩
abbrev S4x16 : Shape := ⟨2, ![4, 16]⟩
abbrev S_ : Shape := ⟨0, ![]⟩

class Facts : Prop where
  bcast_S_S4x16 : S_.BroadcastsInDim S4x16 (![] : Fin 0 → Fin S4x16.rank)

variable [Facts]

def fn {F : FTy → Type} [FloatOps F] (main_arg0 : FVec F S4x500x80x28x28 .f32) (main_arg1 : FVec F S64x28x28 .f32) (main_arg2 : IVec S4x16 32) : IVec S4x16 1 :=
  let main_c : IVec S_ 32 := constantI S_ 32 0#32
  let main_v0 : IVec S4x16 32 := broadcastInDim S4x16 ![] bcast_S_S4x16 main_c
  let main_v1 : IVec S4x16 1 := cmpi .sge main_arg2 main_v0
  let main_c_0 : IVec S_ 32 := constantI S_ 32 80#32
  let main_v2 : IVec S4x16 32 := broadcastInDim S4x16 ![] bcast_S_S4x16 main_c_0
  let main_v3 : IVec S4x16 1 := cmpi .slt main_arg2 main_v2
  let main_v4 : IVec S4x16 1 := andi main_v1 main_v3
  main_v4
-- ==== Pre_heights_in_window.lean ====
abbrev S4x16x800x800 : Shape := ⟨4, ![4, 16, 800, 800]⟩
abbrev S4x16x4 : Shape := ⟨3, ![4, 16, 4]⟩
abbrev S4x16x1 : Shape := ⟨3, ![4, 16, 1]⟩
abbrev S4x16 : Shape := ⟨2, ![4, 16]⟩
abbrev S_ : Shape := ⟨0, ![]⟩

class Facts : Prop where
  slices_S4x16x4_S4x16x1_0_0_1 : S4x16x4.Slices ![0, 0, 1] S4x16x1
  shapeCasts_S4x16x1_S4x16 : S4x16x1.ShapeCasts S4x16
  slices_S4x16x4_S4x16x1_0_0_3 : S4x16x4.Slices ![0, 0, 3] S4x16x1
  bcast_S_S4x16 : S_.BroadcastsInDim S4x16 (![] : Fin 0 → Fin S4x16.rank)

variable [Facts]

def fn {F : FTy → Type} [FloatOps F] (main_arg0 : FVec F S4x16x800x800 .f32) (main_arg1 : FVec F S4x16x4 .f32) : IVec S4x16 1 :=
  let main_v0 : FVec F S4x16x1 .f32 := (extractStridedSlice S4x16x1 ![0, 0, 1] · slices_S4x16x4_S4x16x1_0_0_1) main_arg1
  let main_v1 : FVec F S4x16 .f32 := shapeCast S4x16 main_v0 shapeCasts_S4x16x1_S4x16
  let main_v2 : FVec F S4x16x1 .f32 := (extractStridedSlice S4x16x1 ![0, 0, 3] · slices_S4x16x4_S4x16x1_0_0_3) main_arg1
  let main_v3 : FVec F S4x16 .f32 := shapeCast S4x16 main_v2 shapeCasts_S4x16x1_S4x16
  let main_v4 : IVec S4x16 1 := cmpf .ole main_v1 main_v3
  let main_v5 : FVec F S4x16 .f32 := subf main_v3 main_v1
  let main_cst : FVec F S_ .f32 := constant S_ .f32 0x43FF8000#32
  let main_v6 : FVec F S4x16 .f32 := broadcastInDim S4x16 ![] bcast_S_S4x16 main_cst
  let main_v7 : IVec S4x16 1 := cmpf .ole main_v5 main_v6
  let main_v8 : IVec S4x16 1 := andi main_v4 main_v7
  main_v8
-- ==== Stats.lean ====
abbrev S4x500x80x28x28 : Shape := ⟨5, ![4, 500, 80, 28, 28]⟩
abbrev S64x28x28 : Shape := ⟨3, ![64, 28, 28]⟩
abbrev S4x16 : Shape := ⟨2, ![4, 16]⟩
abbrev S4x28x28x80x500 : Shape := ⟨5, ![4, 28, 28, 80, 500]⟩
abbrev S64 : Shape := ⟨1, ![64]⟩
abbrev S4x16x1x500 : Shape := ⟨4, ![4, 16, 1, 500]⟩
abbrev S1x28x28 : Shape := ⟨3, ![1, 28, 28]⟩
abbrev S1x1x1x500 : Shape := ⟨4, ![1, 1, 1, 500]⟩
abbrev S2x28x28x500 : Shape := ⟨4, ![2, 28, 28, 500]⟩
abbrev S2 : Shape := ⟨1, ![2]⟩
abbrev S1 : Shape := ⟨1, ![1]⟩
abbrev S_ : Shape := ⟨0, ![]⟩
abbrev S1x28x28x500 : Shape := ⟨4, ![1, 28, 28, 500]⟩
abbrev S28x28x500 : Shape := ⟨3, ![28, 28, 500]⟩
abbrev S1x28x28x1x500 : Shape := ⟨5, ![1, 28, 28, 1, 500]⟩
abbrev S28x28 : Shape := ⟨2, ![28, 28]⟩
abbrev S28x500 : Shape := ⟨2, ![28, 500]⟩
abbrev S1x28x500 : Shape := ⟨3, ![1, 28, 500]⟩
abbrev S28x1 : Shape := ⟨2, ![28, 1]⟩
abbrev S500 : Shape := ⟨1, ![500]⟩
abbrev S1x500 : Shape := ⟨2, ![1, 500]⟩

abbrev nBuf : Space → Nat
  | .hbm => 6
  | .vmem => 7
  | .smem => 1
  | _ => 0

abbrev bufTy : (tb : Table) → Fin (tcTables nBuf tb) → BufTy
  | .hbm, ⟨0, _⟩ => ⟨S4x500x80x28x28, .f32⟩
  | .hbm, ⟨1, _⟩ => ⟨S64x28x28, .f32⟩
  | .hbm, ⟨2, _⟩ => ⟨S4x16, .i32⟩
  | .hbm, ⟨3, _⟩ => ⟨S4x28x28x80x500, .f32⟩
  | .hbm, ⟨4, _⟩ => ⟨S4x16x1x500, .f32⟩
  | .hbm, ⟨5, _⟩ => ⟨S4x16x1x500, .f32⟩
  | .local _ .vmem, ⟨0, _⟩ => ⟨S1x28x28, .f32⟩
  | .local _ .vmem, ⟨1, _⟩ => ⟨S1x28x28, .f32⟩
  | .local _ .vmem, ⟨2, _⟩ => ⟨S1x1x1x500, .f32⟩
  | .local _ .vmem, ⟨3, _⟩ => ⟨S1x1x1x500, .f32⟩
  | .local _ .vmem, ⟨4, _⟩ => ⟨S1x1x1x500, .f32⟩
  | .local _ .vmem, ⟨5, _⟩ => ⟨S1x1x1x500, .f32⟩
  | .local _ .vmem, ⟨6, _⟩ => ⟨S2x28x28x500, .f32⟩
  | .local _ .smem, ⟨0, _⟩ => ⟨S64, .i32⟩
  | _, _ => ⟨S4x500x80x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v2_0 : Ref sig .tc := ⟨.hbm, 4, rfl⟩
abbrev main_v2_1 : Ref sig .tc := ⟨.hbm, 5, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v254 : BitVec 32) : Fin 5 → Nat :=
  let c0_i32_51 : BitVec 32 := 0#32
  let c0_i32_57 : BitVec 32 := 0#32
  let c0_i32_58 : BitVec 32 := 0#32
  let c0_i32_59 : BitVec 32 := 0#32
  ![0, 0, 0, v254.toNat, 0]

def k0_chk1 (i : grid0.Coords) (v254 : BitVec 32) : Prop :=
  (∀ (k0_h1 : k0_cond1 i = 1#1), ∀ a, (k0_off1 v254) a + S1x28x28x1x500.size a ≤ S4x28x28x80x500.size a)
theorem k0_off1_inb : ∀ (i : grid0.Coords) (v254 : BitVec 32) (k0_hw1 : k0_chk1 i v254), ∀ (k0_h1 : k0_cond1 i = 1#1), ∀ a, (k0_off1 v254) a + S1x28x28x1x500.size a ≤ S4x28x28x80x500.size a := fun i v254 k0_hw1 k0_h1 => k0_hw1 k0_h1

def k0_cond2 (i : grid0.Coords) : BitVec 1 :=
  let arg0 : BitVec 32 := BitVec.ofNat 32 (i 0).val
  let c1_i32 : BitVec 32 := 1#32
  let v3 : BitVec 32 := Scalar.addi arg0 c1_i32
  let c64_i32 : BitVec 32 := 64#32
  let v4 : BitVec 1 := Scalar.cmpi .slt v3 c64_i32
  let v5 : BitVec 32 := Scalar.extui v4
  let c0_i32_1 : BitVec 32 := 0#32
  let v6 : BitVec 1 := Scalar.cmpi .ne v5 c0_i32_1
  v6

def k0_off2 (i : grid0.Coords) : Fin 1 → Nat :=
  let arg0 : BitVec 32 := BitVec.ofNat 32 (i 0).val
  let c1_i32_50 : BitVec 32 := 1#32
  let v254 : BitVec 32 := Scalar.addi arg0 c1_i32_50
  let v272 : Index := Scalar.indexCast v254
  ![v272.toNat]
def k0_off3 (i : grid0.Coords) : Fin 1 → Nat :=
  let arg0 : BitVec 32 := BitVec.ofNat 32 (i 0).val
  let c1_i32_50 : BitVec 32 := 1#32
  let v254 : BitVec 32 := Scalar.addi arg0 c1_i32_50
  let c2_i32_64 : BitVec 32 := 2#32
  let c0_i32_65 : BitVec 32 := 0#32
  let v284 : BitVec 1 := Scalar.cmpi .eq c2_i32_64 c0_i32_65
  let c1_i32_66 : BitVec 32 := 1#32
  let v285 : BitVec 32 := Scalar.select v284 c1_i32_66 c2_i32_64
  let v286 : BitVec 32 := Scalar.remsi v254 v285
  let c0_i32_68 : BitVec 32 := 0#32
  let v288 : BitVec 1 := Scalar.cmpi .slt v286 c0_i32_68
  let c0_i32_69 : BitVec 32 := 0#32
  let v289 : BitVec 1 := Scalar.cmpi .slt v285 c0_i32_69
  let v290 : BitVec 1 := Scalar.xori v288 v289
  let c0_i32_67 : BitVec 32 := 0#32
  let v287 : BitVec 1 := Scalar.cmpi .ne v286 c0_i32_67
  let v291 : BitVec 1 := Scalar.andi v290 v287
  let v292 : BitVec 32 := Scalar.addi v286 v285
  let v293 : BitVec 32 := Scalar.select v291 v292 v286
  ![v293.toNat]
def k0_off4 (i : grid0.Coords) : Fin 4 → Nat :=
  let arg0 : BitVec 32 := BitVec.ofNat 32 (i 0).val
  let c1_i32_50 : BitVec 32 := 1#32
  let v254 : BitVec 32 := Scalar.addi arg0 c1_i32_50
  let c2_i32_58 : BitVec 32 := 2#32
  let c0_i32_59 : BitVec 32 := 0#32
  let v274 : BitVec 1 := Scalar.cmpi .eq c2_i32_58 c0_i32_59
  let c1_i32_60 : BitVec 32 := 1#32
  let v275 : BitVec 32 := Scalar.select v274 c1_i32_60 c2_i32_58
  let v276 : BitVec 32 := Scalar.remsi v254 v275
  let c0_i32_62 : BitVec 32 := 0#32
  let v278 : BitVec 1 := Scalar.cmpi .slt v276 c0_i32_62
  let c0_i32_63 : BitVec 32 := 0#32
  let v279 : BitVec 1 := Scalar.cmpi .slt v275 c0_i32_63
  let v280 : BitVec 1 := Scalar.xori v278 v279
  let c0_i32_61 : BitVec 32 := 0#32
  let v277 : BitVec 1 := Scalar.cmpi .ne v276 c0_i32_61
  let v281 : BitVec 1 := Scalar.andi v280 v277
  let v282 : BitVec 32 := Scalar.addi v276 v275
  let v283 : BitVec 32 := Scalar.select v281 v282 v276
  let c0_i32_70 : BitVec 32 := 0#32
  let c0_i32_71 : BitVec 32 := 0#32
  let c0_i32_72 : BitVec 32 := 0#32
  ![v283.toNat, 0, 0, 0]
def k0_off5 (i : grid0.Coords) (v273 : BitVec 32) : Fin 5 → Nat :=
  let arg0 : BitVec 32 := BitVec.ofNat 32 (i 0).val
  let c1_i32_50 : BitVec 32 := 1#32
  let v254 : BitVec 32 := Scalar.addi arg0 c1_i32_50
  let c0_i32_52 : BitVec 32 := 0#32
  let v256 : BitVec 1 := Scalar.cmpi .sgt v254 c0_i32_52
  let v257 : BitVec 32 := Scalar.extui v256
  let c0_i32_53 : BitVec 32 := 0#32
  let v258 : BitVec 1 := Scalar.cmpi .slt v254 c0_i32_53
  let v259 : BitVec 32 := Scalar.extui v258
  let v260 : BitVec 32 := Scalar.subi v257 v259
  let c16_i32_51 : BitVec 32 := 16#32
  let c0_i32_54 : BitVec 32 := 0#32
  let v261 : BitVec 1 := Scalar.cmpi .sgt c16_i32_51 c0_i32_54
  let v262 : BitVec 32 := Scalar.extui v261
  let c0_i32_55 : BitVec 32 := 0#32
  let v263 : BitVec 1 := Scalar.cmpi .slt c16_i32_51 c0_i32_55
  let v264 : BitVec 32 := Scalar.extui v263
  let v265 : BitVec 32 := Scalar.subi v262 v264
  let v266 : BitVec 1 := Scalar.cmpi .ne v260 v265
  let v267 : BitVec 32 := Scalar.remsi v254 c16_i32_51
  let c0_i32_56 : BitVec 32 := 0#32
  let v268 : BitVec 1 := Scalar.cmpi .ne v267 c0_i32_56
  let v269 : BitVec 1 := Scalar.andi v266 v268
  let v255 : BitVec 32 := Scalar.divsi v254 c16_i32_51
  let c1_i32_57 : BitVec 32 := 1#32
  let v270 : BitVec 32 := Scalar.subi v255 c1_i32_57
  let v271 : BitVec 32 := Scalar.select v269 v270 v255
  let c0_i32_73 : BitVec 32 := 0#32
  let c0_i32_74 : BitVec 32 := 0#32
  let c0_i32_75 : BitVec 32 := 0#32
  ![v271.toNat, 0, 0, v273.toNat, 0]

def k0_chk2 (i : grid0.Coords) (v273 : BitVec 32) : Prop :=
  (∀ (k0_h2 : k0_cond2 i = 1#1), ∀ a, (k0_off5 i v273) a + S1x28x28x1x500.size a ≤ S4x28x28x80x500.size a)
theorem k0_off5_inb : ∀ (i : grid0.Coords) (v273 : BitVec 32) (k0_hw2 : k0_chk2 i v273), ∀ (k0_h2 : k0_cond2 i = 1#1), ∀ a, (k0_off5 i v273) a + S1x28x28x1x500.size a ≤ S4x28x28x80x500.size a := fun i v273 k0_hw2 k0_h2 => k0_hw2 k0_h2

def k0_off6 (i : grid0.Coords) : Fin 1 → Nat :=
  let arg0 : BitVec 32 := BitVec.ofNat 32 (i 0).val
  let v34 : Index := Scalar.indexCast arg0
  ![v34.toNat]
def k0_off7 (i : grid0.Coords) : Fin 1 → Nat :=
  let arg0 : BitVec 32 := BitVec.ofNat 32 (i 0).val
  let c2_i32_19 : BitVec 32 := 2#32
  let c0_i32_20 : BitVec 32 := 0#32
  let v46 : BitVec 1 := Scalar.cmpi .eq c2_i32_19 c0_i32_20
  let c1_i32_21 : BitVec 32 := 1#32
  let v47 : BitVec 32 := Scalar.select v46 c1_i32_21 c2_i32_19
  let v48 : BitVec 32 := Scalar.remsi arg0 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  ![v55.toNat]
def k0_off8 (i : grid0.Coords) : Fin 4 → Nat :=
  let arg0 : BitVec 32 := BitVec.ofNat 32 (i 0).val
  let c2_i32_13 : BitVec 32 := 2#32
  let c0_i32_14 : BitVec 32 := 0#32
  let v36 : BitVec 1 := Scalar.cmpi .eq c2_i32_13 c0_i32_14
  let c1_i32_15 : BitVec 32 := 1#32
  let v37 : BitVec 32 := Scalar.select v36 c1_i32_15 c2_i32_13
  let v38 : BitVec 32 := Scalar.remsi arg0 v37
  let c0_i32_17 : BitVec 32 := 0#32
  let v40 : BitVec 1 := Scalar.cmpi .slt v38 c0_i32_17
  let c0_i32_18 : BitVec 32 := 0#32
  let v41 : BitVec 1 := Scalar.cmpi .slt v37 c0_i32_18
  let v42 : BitVec 1 := Scalar.xori v40 v41
  let c0_i32_16 : BitVec 32 := 0#32
  let v39 : BitVec 1 := Scalar.cmpi .ne v38 c0_i32_16
  let v43 : BitVec 1 := Scalar.andi v42 v39
  let v44 : BitVec 32 := Scalar.addi v38 v37
  let v45 : BitVec 32 := Scalar.select v43 v44 v38
  let c0_i32_25 : BitVec 32 := 0#32
  let c0_i32_26 : BitVec 32 := 0#32
  let c0_i32_27 : BitVec 32 := 0#32
  ![v45.toNat, 0, 0, 0]
def k0_off9 (i : grid0.Coords) (v35 : BitVec 32) : Fin 5 → Nat :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .slt arg0 c0_i32_8
  let v21 : BitVec 32 := Scalar.extui v20
  let v22 : BitVec 32 := Scalar.subi v19 v21
  let c16_i32 : BitVec 32 := 16#32
  let c0_i32_9 : BitVec 32 := 0#32
  let v23 : BitVec 1 := Scalar.cmpi .sgt c16_i32 c0_i32_9
  let v24 : BitVec 32 := Scalar.extui v23
  let c0_i32_10 : BitVec 32 := 0#32
  let v25 : BitVec 1 := Scalar.cmpi .slt c16_i32 c0_i32_10
  let v26 : BitVec 32 := Scalar.extui v25
  let v27 : BitVec 32 := Scalar.subi v24 v26
  let v28 : BitVec 1 := Scalar.cmpi .ne v22 v27
  let v29 : BitVec 32 := Scalar.remsi arg0 c16_i32
  let c0_i32_11 : BitVec 32 := 0#32
  let v30 : BitVec 1 := Scalar.cmpi .ne v29 c0_i32_11
  let v31 : BitVec 1 := Scalar.andi v28 v30
  let v17 : BitVec 32 := Scalar.divsi arg0 c16_i32
  let c1_i32_12 : BitVec 32 := 1#32
  let v32 : BitVec 32 := Scalar.subi v17 c1_i32_12
  let v33 : BitVec 32 := Scalar.select v31 v32 v17
  let c0_i32_28 : BitVec 32 := 0#32
  let c0_i32_29 : BitVec 32 := 0#32
  let c0_i32_30 : BitVec 32 := 0#32
  ![v33.toNat, 0, 0, v35.toNat, 0]

def k0_chk3 (i : grid0.Coords) (v35 : BitVec 32) : Prop :=
  (∀ a, (k0_off9 i v35) a + S1x28x28x1x500.size a ≤ S4x28x28x80x500.size a)
theorem k0_off9_inb : ∀ (i : grid0.Coords) (v35 : BitVec 32) (k0_hw3 : k0_chk3 i v35), ∀ a, (k0_off9 i v35) a + S1x28x28x1x500.size a ≤ S4x28x28x80x500.size a := fun i v35 k0_hw3 => k0_hw3

def k0_off10 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v64 : Index := Scalar.indexCast v16
  let c0_33 : Index := 0#32
  let c0_34 : Index := 0#32
  let c0_35 : Index := 0#32
  ![v64.toNat, 0, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_3 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S1x28x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x500 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x500 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x500x80x28x28 : Shape := ⟨5, ![4, 500, 80, 28, 28]⟩
abbrev S64x28x28 : Shape := ⟨3, ![64, 28, 28]⟩
abbrev S4x16 : Shape := ⟨2, ![4, 16]⟩
abbrev S4x16x784 : Shape := ⟨3, ![4, 16, 784]⟩
abbrev S_ : Shape := ⟨0, ![]⟩
abbrev S4x500x80x784 : Shape := ⟨4, ![4, 500, 80, 784]⟩
abbrev S4x16x500x80 : Shape := ⟨4, ![4, 16, 500, 80]⟩
abbrev S4x500x16x80 : Shape := ⟨4, ![4, 500, 16, 80]⟩
abbrev S4x500x80 : Shape := ⟨3, ![4, 500, 80]⟩
abbrev S16 : Shape := ⟨1, ![16]⟩
abbrev S16x1 : Shape := ⟨2, ![16, 1]⟩
abbrev S4x16x1 : Shape := ⟨3, ![4, 16, 1]⟩
abbrev S4x16x2 : Shape := ⟨3, ![4, 16, 2]⟩
abbrev S4x500x16 : Shape := ⟨3, ![4, 500, 16]⟩
abbrev S4x16x500 : Shape := ⟨3, ![4, 16, 500]⟩
abbrev S4x16x1x500 : Shape := ⟨4, ![4, 16, 1, 500]⟩

abbrev nBuf : Space → Nat
  | .hbm => 51
  | .vmem => 0
  | .smem => 0
  | _ => 0

abbrev bufTy : (tb : Table) → Fin (tcTables nBuf tb) → BufTy
  | .hbm, ⟨0, _⟩ => ⟨S4x500x80x28x28, .f32⟩
  | .hbm, ⟨1, _⟩ => ⟨S64x28x28, .f32⟩
  | .hbm, ⟨2, _⟩ => ⟨S4x16, .i32⟩
  | .hbm, ⟨3, _⟩ => ⟨S64x28x28, .f32⟩
  | .hbm, ⟨4, _⟩ => ⟨S4x16x784, .f32⟩
  | .hbm, ⟨5, _⟩ => ⟨S4x500x80x28x28, .f32⟩
  | .hbm, ⟨6, _⟩ => ⟨S4x500x80x28x28, .f32⟩
  | .hbm, ⟨7, _⟩ => ⟨S_, .f32⟩
  | .hbm, ⟨8, _⟩ => ⟨S4x500x80x28x28, .f32⟩
  | .hbm, ⟨9, _⟩ => ⟨S4x500x80x28x28, .f32⟩
  | .hbm, ⟨10, _⟩ => ⟨S_, .f32⟩
  | .hbm, ⟨11, _⟩ => ⟨S4x500x80x28x28, .f32⟩
  | .hbm, ⟨12, _⟩ => ⟨S4x500x80x28x28, .f32⟩
  | .hbm, ⟨13, _⟩ => ⟨S4x500x80x784, .f32⟩
  | .hbm, ⟨14, _⟩ => ⟨S4x16x500x80, .f32⟩
  | .hbm, ⟨15, _⟩ => ⟨S4x500x16x80, .f32⟩
  | .hbm, ⟨16, _⟩ => ⟨S_, .f32⟩
  | .hbm, ⟨17, _⟩ => ⟨S4x500x80, .f32⟩
  | .hbm, ⟨18, _⟩ => ⟨S16, .i32⟩
  | .hbm, ⟨19, _⟩ => ⟨S_, .i32⟩
  | .hbm, ⟨20, _⟩ => ⟨S16, .i32⟩
  | .hbm, ⟨21, _⟩ => ⟨S16, .i1⟩
  | .hbm, ⟨22, _⟩ => ⟨S_, .i32⟩
  | .hbm, ⟨23, _⟩ => ⟨S16, .i32⟩
  | .hbm, ⟨24, _⟩ => ⟨S16, .i32⟩
  | .hbm, ⟨25, _⟩ => ⟨S16, .i32⟩
  | .hbm, ⟨26, _⟩ => ⟨S_, .i32⟩
  | .hbm, ⟨27, _⟩ => ⟨S4x16, .i32⟩
  | .hbm, ⟨28, _⟩ => ⟨S4x16, .i1⟩
  | .hbm, ⟨29, _⟩ => ⟨S_, .i32⟩
  | .hbm, ⟨30, _⟩ => ⟨S4x16, .i32⟩
  | .hbm, ⟨31, _⟩ => ⟨S4x16, .i32⟩
  | .hbm, ⟨32, _⟩ => ⟨S4x16, .i32⟩
  | .hbm, ⟨33, _⟩ => ⟨S16x1, .i32⟩
  | .hbm, ⟨34, _⟩ => ⟨S4x16x1, .i32⟩
  | .hbm, ⟨35, _⟩ => ⟨S4x16x1, .i32⟩
  | .hbm, ⟨36, _⟩ => ⟨S4x16x2, .i32⟩
  | .hbm, ⟨37, _⟩ => ⟨S4x500x16, .f32⟩
  | .hbm, ⟨38, _⟩ => ⟨S_, .i32⟩
  | .hbm, ⟨39, _⟩ => ⟨S4x16, .i32⟩
  | .hbm, ⟨40, _⟩ => ⟨S4x16, .i1⟩
  | .hbm, ⟨41, _⟩ => ⟨S_, .i32⟩
  | .hbm, ⟨42, _⟩ => ⟨S4x16, .i32⟩
  | .hbm, ⟨43, _⟩ => ⟨S4x16, .i32⟩
  | .hbm, ⟨44, _⟩ => ⟨S4x16, .i32⟩
  | .hbm, ⟨45, _⟩ => ⟨S4x16x1, .i32⟩
  | .hbm, ⟨46, _⟩ => ⟨S4x500x16, .f32⟩
  | .hbm, ⟨47, _⟩ => ⟨S4x16x500, .f32⟩
  | .hbm, ⟨48, _⟩ => ⟨S4x16x1x500, .f32⟩
  | .hbm, ⟨49, _⟩ => ⟨S4x16x500, .f32⟩
  | .hbm, ⟨50, _⟩ => ⟨S4x16x1x500, .f32⟩
  | _, _ => ⟨S4x500x80x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_5 : Ref sig .tc := ⟨.hbm, 38, rfl⟩
abbrev main_v28 : Ref sig .tc := ⟨.hbm, 39, rfl⟩
abbrev main_v29 : Ref sig .tc := ⟨.hbm, 40, rfl⟩
abbrev main_c_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Crop.lean ====
abbrev S4x16x800x800 : Shape := ⟨4, ![4, 16, 800, 800]⟩
abbrev S4x16x4 : Shape := ⟨3, ![4, 16, 4]⟩
abbrev S64x800x800 : Shape := ⟨3, ![64, 800, 800]⟩
abbrev S256 : Shape := ⟨1, ![256]⟩
abbrev S64x28x28 : Shape := ⟨3, ![64, 28, 28]⟩
abbrev S1x28x28 : Shape := ⟨3, ![1, 28, 28]⟩
abbrev S2x512x800 : Shape := ⟨3, ![2, 512, 800]⟩
abbrev S2 : Shape := ⟨1, ![2]⟩
abbrev S1 : Shape := ⟨1, ![1]⟩
abbrev S_ : Shape := ⟨0, ![]⟩
abbrev S1x512x800 : Shape := ⟨3, ![1, 512, 800]⟩
abbrev S512x800 : Shape := ⟨2, ![512, 800]⟩
abbrev S28x512 : Shape := ⟨2, ![28, 512]⟩
abbrev S28x800 : Shape := ⟨2, ![28, 800]⟩
abbrev S28x28 : Shape := ⟨2, ![28, 28]⟩

abbrev nBuf : Space → Nat
  | .hbm => 5
  | .vmem => 3
  | .smem => 1
  | _ => 0

abbrev bufTy : (tb : Table) → Fin (tcTables nBuf tb) → BufTy
  | .hbm, ⟨0, _⟩ => ⟨S4x16x800x800, .f32⟩
  | .hbm, ⟨1, _⟩ => ⟨S4x16x4, .f32⟩
  | .hbm, ⟨2, _⟩ => ⟨S64x800x800, .f32⟩
  | .hbm, ⟨3, _⟩ => ⟨S256, .f32⟩
  | .hbm, ⟨4, _⟩ => ⟨S64x28x28, .f32⟩
  | .local _ .vmem, ⟨0, _⟩ => ⟨S1x28x28, .f32⟩
  | .local _ .vmem, ⟨1, _⟩ => ⟨S1x28x28, .f32⟩
  | .local _ .vmem, ⟨2, _⟩ => ⟨S2x512x800, .f32⟩
  | .local _ .smem, ⟨0, _⟩ => ⟨S256, .f32⟩
  | _, _ => ⟨S4x16x800x800, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg1_0 : Ref sig .tc := ⟨.vmem, 0, rfl⟩
abbrev cc0_stg1_1 : Ref sig .tc := ⟨.vmem, 1, rfl⟩
abbrev cc0_scratch0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (v147 : BitVec 32) : BitVec 32 :=
  let c288_i32_62 : BitVec 32 := 288#32
  let c0_i32_61 : BitVec 32 := 0#32
  let c1_i32_60 : BitVec 32 := 1#32
  let v148 : BitVec 32 := Scalar.subi v147 c1_i32_60
  let v149 : BitVec 32 := Scalar.maxsi c0_i32_61 v148
  let v150 : BitVec 32 := Scalar.minsi c288_i32_62 v149
  let c3_i32_63 : BitVec 32 := 3#32
  let v151 : BitVec 32 := Scalar.shrsi v150 c3_i32_63
  let c3_i32_64 : BitVec 32 := 3#32
  let v152 : BitVec 32 := Scalar.shli v151 c3_i32_64
  v152

def k0_off1 (v147 : BitVec 32) : Fin 3 → Nat :=
  let c0_i32_65 : BitVec 32 := 0#32
  let c288_i32_62 : BitVec 32 := 288#32
  let c0_i32_61 : BitVec 32 := 0#32
  let c1_i32_60 : BitVec 32 := 1#32
  let v148 : BitVec 32 := Scalar.subi v147 c1_i32_60
  let v149 : BitVec 32 := Scalar.maxsi c0_i32_61 v148
  let v150 : BitVec 32 := Scalar.minsi c288_i32_62 v149
  let c3_i32_63 : BitVec 32 := 3#32
  let v151 : BitVec 32 := Scalar.shrsi v150 c3_i32_63
  let c3_i32_64 : BitVec 32 := 3#32
  let v152 : BitVec 32 := Scalar.shli v151 c3_i32_64
  let v153 : BitVec 32 := v152
  let c0_i32_70 : BitVec 32 := 0#32
  ![0, v153.toNat, 0]

def k0_chk1 (i : grid0.Coords) (v147 : BitVec 32) : Prop :=
  (∀ (k0_h1 : k0_cond1 i = 1#1), 8 ∣ (k0_mult1 v147).toNat) ∧
  (∀ (k0_h1 : k0_cond1 i = 1#1), ∀ a, (k0_off1 v147) a + S1x512x800.size a ≤ S64x800x800.size a)
theorem k0_mult1_dvd : ∀ (i : grid0.Coords) (v147 : BitVec 32) (k0_hw1 : k0_chk1 i v147), ∀ (k0_h1 : k0_cond1 i = 1#1), 8 ∣ (k0_mult1 v147).toNat := fun i v147 k0_hw1 k0_h1 => k0_hw1.1 k0_h1
theorem k0_off1_inb : ∀ (i : grid0.Coords) (v147 : BitVec 32) (k0_hw1 : k0_chk1 i v147), ∀ (k0_h1 : k0_cond1 i = 1#1), ∀ a, (k0_off1 v147) a + S1x512x800.size a ≤ S64x800x800.size a := fun i v147 k0_hw1 k0_h1 => k0_hw1.2 k0_h1

def k0_cond2 (i : grid0.Coords) : BitVec 1 :=
  let arg0 : BitVec 32 := BitVec.ofNat 32 (i 0).val
  let c1_i32 : BitVec 32 := 1#32
  let v3 : BitVec 32 := Scalar.addi arg0 c1_i32
  let c64_i32 : BitVec 32 := 64#32
  let v4 : BitVec 1 := Scalar.cmpi .slt v3 c64_i32
  let v5 : BitVec 32 := Scalar.extui v4
  let c0_i32_1 : BitVec 32 := 0#32
  let v6 : BitVec 1 := Scalar.cmpi .ne v5 c0_i32_1
  v6

def k0_off2 (i : grid0.Coords) : Fin 1 → Nat :=
  let arg0 : BitVec 32 := BitVec.ofNat 32 (i 0).val
  let c1_i32_60 : BitVec 32 := 1#32
  let v145 : BitVec 32 := Scalar.addi arg0 c1_i32_60
  let c4_i32_61 : BitVec 32 := 4#32
  let v146 : BitVec 32 := Scalar.muli v145 c4_i32_61
  let c1_i32_62 : BitVec 32 := 1#32
  let v147 : BitVec 32 := Scalar.addi v146 c1_i32_62
  let v148 : Index := Scalar.indexCast v147
  ![v148.toNat]
def k0_mult2 (v151 : BitVec 32) : BitVec 32 :=
  let c288_i32_65 : BitVec 32 := 288#32
  let c0_i32_64 : BitVec 32 := 0#32
  let c1_i32_63 : BitVec 32 := 1#32
  let v152 : BitVec 32 := Scalar.subi v151 c1_i32_63
  let v153 : BitVec 32 := Scalar.maxsi c0_i32_64 v152
  let v154 : BitVec 32 := Scalar.minsi c288_i32_65 v153
  let c3_i32_66 : BitVec 32 := 3#32
  let v155 : BitVec 32 := Scalar.shrsi v154 c3_i32_66
  let c3_i32_67 : BitVec 32 := 3#32
  let v156 : BitVec 32 := Scalar.shli v155 c3_i32_67
  v156

def k0_off3 (i : grid0.Coords) : Fin 1 → Nat :=
  let arg0 : BitVec 32 := BitVec.ofNat 32 (i 0).val
  let c1_i32_60 : BitVec 32 := 1#32
  let v145 : BitVec 32 := Scalar.addi arg0 c1_i32_60
  let c2_i32_74 : BitVec 32 := 2#32
  let c0_i32_75 : BitVec 32 := 0#32
  let v168 : BitVec 1 := Scalar.cmpi .eq c2_i32_74 c0_i32_75
  let c1_i32_76 : BitVec 32 := 1#32
  let v169 : BitVec 32 := Scalar.select v168 c1_i32_76 c2_i32_74
  let v170 : BitVec 32 := Scalar.remsi v145 v169
  let c0_i32_78 : BitVec 32 := 0#32
  let v172 : BitVec 1 := Scalar.cmpi .slt v170 c0_i32_78
  let c0_i32_79 : BitVec 32 := 0#32
  let v173 : BitVec 1 := Scalar.cmpi .slt v169 c0_i32_79
  let v174 : BitVec 1 := Scalar.xori v172 v173
  let c0_i32_77 : BitVec 32 := 0#32
  let v171 : BitVec 1 := Scalar.cmpi .ne v170 c0_i32_77
  let v175 : BitVec 1 := Scalar.andi v174 v171
  let v176 : BitVec 32 := Scalar.addi v170 v169
  let v177 : BitVec 32 := Scalar.select v175 v176 v170
  ![v177.toNat]
def k0_off4 (i : grid0.Coords) : Fin 3 → Nat :=
  let arg0 : BitVec 32 := BitVec.ofNat 32 (i 0).val
  let c1_i32_60 : BitVec 32 := 1#32
  let v145 : BitVec 32 := Scalar.addi arg0 c1_i32_60
  let c2_i32_68 : BitVec 32 := 2#32
  let c0_i32_69 : BitVec 32 := 0#32
  let v158 : BitVec 1 := Scalar.cmpi .eq c2_i32_68 c0_i32_69
  let c1_i32_70 : BitVec 32 := 1#32
  let v159 : BitVec 32 := Scalar.select v158 c1_i32_70 c2_i32_68
  let v160 : BitVec 32 := Scalar.remsi v145 v159
  let c0_i32_72 : BitVec 32 := 0#32
  let v162 : BitVec 1 := Scalar.cmpi .slt v160 c0_i32_72
  let c0_i32_73 : BitVec 32 := 0#32
  let v163 : BitVec 1 := Scalar.cmpi .slt v159 c0_i32_73
  let v164 : BitVec 1 := Scalar.xori v162 v163
  let c0_i32_71 : BitVec 32 := 0#32
  let v161 : BitVec 1 := Scalar.cmpi .ne v160 c0_i32_71
  let v165 : BitVec 1 := Scalar.andi v164 v161
  let v166 : BitVec 32 := Scalar.addi v160 v159
  let v167 : BitVec 32 := Scalar.select v165 v166 v160
  let c0_i32_80 : BitVec 32 := 0#32
  let c0_i32_81 : BitVec 32 := 0#32
  ![v167.toNat, 0, 0]
def k0_off5 (i : grid0.Coords) (v151 : BitVec 32) : Fin 3 → Nat :=
  let arg0 : BitVec 32 := BitVec.ofNat 32 (i 0).val
  let c1_i32_60 : BitVec 32 := 1#32
  let v145 : BitVec 32 := Scalar.addi arg0 c1_i32_60
  let c288_i32_65 : BitVec 32 := 288#32
  let c0_i32_64 : BitVec 32 := 0#32
  let c1_i32_63 : BitVec 32 := 1#32
  let v152 : BitVec 32 := Scalar.subi v151 c1_i32_63
  let v153 : BitVec 32 := Scalar.maxsi c0_i32_64 v152
  let v154 : BitVec 32 := Scalar.minsi c288_i32_65 v153
  let c3_i32_66 : BitVec 32 := 3#32
  let v155 : BitVec 32 := Scalar.shrsi v154 c3_i32_66
  let c3_i32_67 : BitVec 32 := 3#32
  let v156 : BitVec 32 := Scalar.shli v155 c3_i32_67
  let v157 : BitVec 32 := v156
  let c0_i32_82 : BitVec 32 := 0#32
  ![v145.toNat, v157.toNat, 0]

def k0_chk2 (i : grid0.Coords) (v151 : BitVec 32) : Prop :=
  (∀ (k0_h2 : k0_cond2 i = 1#1), 8 ∣ (k0_mult2 v151).toNat) ∧
  (∀ (k0_h2 : k0_cond2 i = 1#1), ∀ a, (k0_off5 i v151) a + S1x512x800.size a ≤ S64x800x800.size a)
theorem k0_mult2_dvd : ∀ (i : grid0.Coords) (v151 : BitVec 32) (k0_hw2 : k0_chk2 i v151), ∀ (k0_h2 : k0_cond2 i = 1#1), 8 ∣ (k0_mult2 v151).toNat := fun i v151 k0_hw2 k0_h2 => k0_hw2.1 k0_h2
theorem k0_off5_inb : ∀ (i : grid0.Coords) (v151 : BitVec 32) (k0_hw2 : k0_chk2 i v151), ∀ (k0_h2 : k0_cond2 i = 1#1), ∀ a, (k0_off5 i v151) a + S1x512x800.size a ≤ S64x800x800.size a := fun i v151 k0_hw2 k0_h2 => k0_hw2.2 k0_h2

def k0_off6 (i : grid0.Coords) (c0_i32_2 : BitVec 32) : Fin 1 → Nat :=
  let arg0 : BitVec 32 := BitVec.ofNat 32 (i 0).val
  let c4_i32 : BitVec 32 := 4#32
  let v7 : BitVec 32 := Scalar.muli arg0 c4_i32
  let v8 : BitVec 32 := Scalar.addi v7 c0_i32_2
  let v9 : Index := Scalar.indexCast v8
  ![v9.toNat]
def k0_mult3 (v82 : BitVec 32) : BitVec 32 :=
  let c288_i32_26 : BitVec 32 := 288#32
  let c0_i32_25 : BitVec 32 := 0#32
  let c1_i32_24 : BitVec 32 := 1#32
  let v83 : BitVec 32 := Scalar.subi v82 c1_i32_24
  let v84 : BitVec 32 := Scalar.maxsi c0_i32_25 v83
  let v85 : BitVec 32 := Scalar.minsi c288_i32_26 v84
  let c3_i32_27 : BitVec 32 := 3#32
  let v86 : BitVec 32 := Scalar.shrsi v85 c3_i32_27
  let c3_i32_28 : BitVec 32 := 3#32
  let v87 : BitVec 32 := Scalar.shli v86 c3_i32_28
  v87

def k0_off7 (i : grid0.Coords) : Fin 1 → Nat :=
  let arg0 : BitVec 32 := BitVec.ofNat 32 (i 0).val
  let c2_i32_35 : BitVec 32 := 2#32
  let c0_i32_36 : BitVec 32 := 0#32
  let v99 : BitVec 1 := Scalar.cmpi .eq c2_i32_35 c0_i32_36
  let c1_i32_37 : BitVec 32 := 1#32
  let v100 : BitVec 32 := Scalar.select v99 c1_i32_37 c2_i32_35
  let v101 : BitVec 32 := Scalar.remsi arg0 v100
  let c0_i32_39 : BitVec 32 := 0#32
  let v103 : BitVec 1 := Scalar.cmpi .slt v101 c0_i32_39
  let c0_i32_40 : BitVec 32 := 0#32
  let v104 : BitVec 1 := Scalar.cmpi .slt v100 c0_i32_40
  let v105 : BitVec 1 := Scalar.xori v103 v104
  let c0_i32_38 : BitVec 32 := 0#32
  let v102 : BitVec 1 := Scalar.cmpi .ne v101 c0_i32_38
  let v106 : BitVec 1 := Scalar.andi v105 v102
  let v107 : BitVec 32 := Scalar.addi v101 v100
  let v108 : BitVec 32 := Scalar.select v106 v107 v101
  ![v108.toNat]
def k0_off8 (i : grid0.Coords) : Fin 3 → Nat :=
  let arg0 : BitVec 32 := BitVec.ofNat 32 (i 0).val
  let c2_i32_29 : BitVec 32 := 2#32
  let c0_i32_30 : BitVec 32 := 0#32
  let v89 : BitVec 1 := Scalar.cmpi .eq c2_i32_29 c0_i32_30
  let c1_i32_31 : BitVec 32 := 1#32
  let v90 : BitVec 32 := Scalar.select v89 c1_i32_31 c2_i32_29
  let v91 : BitVec 32 := Scalar.remsi arg0 v90
  let c0_i32_33 : BitVec 32 := 0#32
  let v93 : BitVec 1 := Scalar.cmpi .slt v91 c0_i32_33
  let c0_i32_34 : BitVec 32 := 0#32
  let v94 : BitVec 1 := Scalar.cmpi .slt v90 c0_i32_34
  let v95 : BitVec 1 := Scalar.xori v93 v94
  let c0_i32_32 : BitVec 32 := 0#32
  let v92 : BitVec 1 := Scalar.cmpi .ne v91 c0_i32_32
  let v96 : BitVec 1 := Scalar.andi v95 v92
  let v97 : BitVec 32 := Scalar.addi v91 v90
  let v98 : BitVec 32 := Scalar.select v96 v97 v91
  let c0_i32_41 : BitVec 32 := 0#32
  let c0_i32_42 : BitVec 32 := 0#32
  ![v98.toNat, 0, 0]
def k0_off9 (i : grid0.Coords) (v82 : BitVec 32) : Fin 3 → Nat :=
  let arg0 : BitVec 32 := BitVec.ofNat 32 (i 0).val
  let c288_i32_26 : BitVec 32 := 288#32
  let c0_i32_25 : BitVec 32 := 0#32
  let c1_i32_24 : BitVec 32 := 1#32
  let v83 : BitVec 32 := Scalar.subi v82 c1_i32_24
  let v84 : BitVec 32 := Scalar.maxsi c0_i32_25 v83
  let v85 : BitVec 32 := Scalar.minsi c288_i32_26 v84
  let c3_i32_27 : BitVec 32 := 3#32
  let v86 : BitVec 32 := Scalar.shrsi v85 c3_i32_27
  let c3_i32_28 : BitVec 32 := 3#32
  let v87 : BitVec 32 := Scalar.shli v86 c3_i32_28
  let v88 : BitVec 32 := v87
  let c0_i32_43 : BitVec 32 := 0#32
  ![arg0.toNat, v88.toNat, 0]

def k0_chk3 (i : grid0.Coords) (v82 : BitVec 32) : Prop :=
  (8 ∣ (k0_mult3 v82).toNat) ∧
  (∀ a, (k0_off9 i v82) a + S1x512x800.size a ≤ S64x800x800.size a)
theorem k0_mult3_dvd : ∀ (i : grid0.Coords) (v82 : BitVec 32) (k0_hw3 : k0_chk3 i v82), 8 ∣ (k0_mult3 v82).toNat := fun i v82 k0_hw3 => k0_hw3.1
theorem k0_off9_inb : ∀ (i : grid0.Coords) (v82 : BitVec 32) (k0_hw3 : k0_chk3 i v82), ∀ a, (k0_off9 i v82) a + S1x512x800.size a ≤ S64x800x800.size a := fun i v82 k0_hw3 => k0_hw3.2

def k0_off10 (i : grid0.Coords) : Fin 3 → Nat :=
  let arg0 : BitVec 32 := BitVec.ofNat 32 (i 0).val
  let c2_i32_44 : BitVec 32 := 2#32
  let c0_i32_45 : BitVec 32 := 0#32
  let v115 : BitVec 1 := Scalar.cmpi .eq c2_i32_44 c0_i32_45
  let c1_i32_46 : BitVec 32 := 1#32
  let v116 : BitVec 32 := Scalar.select v115 c1_i32_46 c2_i32_44
  let v117 : BitVec 32 := Scalar.remsi arg0 v116
  let c0_i32_48 : BitVec 32 := 0#32
  let v119 : BitVec 1 := Scalar.cmpi .slt v117 c0_i32_48
  let c0_i32_49 : BitVec 32 := 0#32
  let v120 : BitVec 1 := Scalar.cmpi .slt v116 c0_i32_49
  let v121 : BitVec 1 := Scalar.xori v119 v120
  let c0_i32_47 : BitVec 32 := 0#32
  let v118 : BitVec 1 := Scalar.cmpi .ne v117 c0_i32_47
  let v122 : BitVec 1 := Scalar.andi v121 v118
  let v123 : BitVec 32 := Scalar.addi v117 v116
  let v124 : BitVec 32 := Scalar.select v122 v123 v117
  let v125 : Index := Scalar.indexCast v124
  let c0 : Index := 0#32
  let c0_50 : Index := 0#32
  ![v125.toNat, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x28x28 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CropIdeal.lean ====
variable {F : FTy → Type} [FloatOps F] [Named F]
def κ : String → Option EReal := fun
  | "inv28" => some ((28⁻¹ : ℝ) : EReal)
  | _ => none
-- ==== CropReferenceIdeal.lean ====
abbrev S4x16x800x800 : Shape := ⟨4, ![4, 16, 800, 800]⟩
abbrev S4x16x4 : Shape := ⟨3, ![4, 16, 4]⟩
abbrev S4x16x1 : Shape := ⟨3, ![4, 16, 1]⟩
abbrev S4x16 : Shape := ⟨2, ![4, 16]⟩
abbrev S28 : Shape := ⟨1, ![28]⟩
abbrev S_ : Shape := ⟨0, ![]⟩
abbrev S1x28 : Shape := ⟨2, ![1, 28]⟩
abbrev S1x1x28 : Shape := ⟨3, ![1, 1, 28]⟩
abbrev S4x16x28 : Shape := ⟨3, ![4, 16, 28]⟩
abbrev S4x16x28x28 : Shape := ⟨4, ![4, 16, 28, 28]⟩
abbrev S4x16x28x28x1 : Shape := ⟨5, ![4, 16, 28, 28, 1]⟩
abbrev S4x16x28x28x2 : Shape := ⟨5, ![4, 16, 28, 28, 2]⟩
abbrev S28x28 : Shape := ⟨2, ![28, 28]⟩
abbrev S16x28x28 : Shape := ⟨3, ![16, 28, 28]⟩
abbrev S64x28x28 : Shape := ⟨3, ![64, 28, 28]⟩

abbrev nBuf : Space → Nat
  | .hbm => 215
  | .vmem => 0
  | .smem => 0
  | _ => 0

abbrev hbmTy0_0 (i : Nat) : BufTy := match i % 128 with
  | 0 => ⟨S4x16x800x800, .f32⟩
  | 1 => ⟨S4x16x4, .f32⟩
  | 2 => ⟨S4x16x1, .f32⟩
  | 3 => ⟨S4x16, .f32⟩
  | 4 => ⟨S4x16x1, .f32⟩
  | 5 => ⟨S4x16, .f32⟩
  | 6 => ⟨S4x16x1, .f32⟩
  | 7 => ⟨S4x16, .f32⟩
  | 8 => ⟨S4x16x1, .f32⟩
  | 9 => ⟨S4x16, .f32⟩
  | 10 => ⟨S28, .i32⟩
  | 11 => ⟨S28, .f32⟩
  | 12 => ⟨S_, .f32⟩
  | 13 => ⟨S28, .f32⟩
  | 14 => ⟨S28, .f32⟩
  | 15 => ⟨S4x16, .f32⟩
  | 16 => ⟨S28, .f32⟩
  | 17 => ⟨S1x28, .f32⟩
  | 18 => ⟨S4x16x1, .f32⟩
  | 19 => ⟨S1x1x28, .f32⟩
  | 20 => ⟨S4x16x28, .f32⟩
  | 21 => ⟨S4x16x28, .f32⟩
  | 22 => ⟨S4x16x28, .f32⟩
  | 23 => ⟨S_, .f32⟩
  | 24 => ⟨S4x16x28, .f32⟩
  | 25 => ⟨S4x16x28, .f32⟩
  | 26 => ⟨S4x16x1, .f32⟩
  | 27 => ⟨S4x16x28, .f32⟩
  | 28 => ⟨S4x16x28, .f32⟩
  | 29 => ⟨S_, .f32⟩
  | 30 => ⟨S4x16x28, .f32⟩
  | 31 => ⟨S4x16x28, .f32⟩
  | 32 => ⟨S28, .i32⟩
  | 33 => ⟨S28, .f32⟩
  | 34 => ⟨S_, .f32⟩
  | 35 => ⟨S28, .f32⟩
  | 36 => ⟨S28, .f32⟩
  | 37 => ⟨S4x16, .f32⟩
  | 38 => ⟨S28, .f32⟩
  | 39 => ⟨S1x28, .f32⟩
  | 40 => ⟨S4x16x1, .f32⟩
  | 41 => ⟨S1x1x28, .f32⟩
  | 42 => ⟨S4x16x28, .f32⟩
  | 43 => ⟨S4x16x28, .f32⟩
  | 44 => ⟨S4x16x28, .f32⟩
  | 45 => ⟨S_, .f32⟩
  | 46 => ⟨S4x16x28, .f32⟩
  | 47 => ⟨S4x16x28, .f32⟩
  | 48 => ⟨S4x16x1, .f32⟩
  | 49 => ⟨S4x16x28, .f32⟩
  | 50 => ⟨S4x16x28, .f32⟩
  | 51 => ⟨S_, .f32⟩
  | 52 => ⟨S4x16x28, .f32⟩
  | 53 => ⟨S4x16x28, .f32⟩
  | 54 => ⟨S4x16x28x28, .f32⟩
  | 55 => ⟨S4x16x28x28, .f32⟩
  | 56 => ⟨S4x16x28x28, .f32⟩
  | 57 => ⟨S4x16x28x28, .f32⟩
  | 58 => ⟨S_, .f32⟩
  | 59 => ⟨S4x16x28x28, .f32⟩
  | 60 => ⟨S4x16x28x28, .f32⟩
  | 61 => ⟨S4x16x28x28, .i32⟩
  | 62 => ⟨S_, .i32⟩
  | 63 => ⟨S4x16x28x28, .i32⟩
  | 64 => ⟨S4x16x28x28, .i32⟩
  | 65 => ⟨S_, .i32⟩
  | 66 => ⟨S4x16x28x28, .i32⟩
  | 67 => ⟨S4x16x28x28, .i1⟩
  | 68 => ⟨S_, .i32⟩
  | 69 => ⟨S4x16x28x28, .i32⟩
  | 70 => ⟨S4x16x28x28, .i1⟩
  | 71 => ⟨S4x16x28x28, .i1⟩
  | 72 => ⟨S_, .i32⟩
  | 73 => ⟨S4x16x28x28, .i32⟩
  | 74 => ⟨S4x16x28x28, .i1⟩
  | 75 => ⟨S_, .i32⟩
  | 76 => ⟨S4x16x28x28, .i32⟩
  | 77 => ⟨S4x16x28x28, .i1⟩
  | 78 => ⟨S4x16x28x28, .i1⟩
  | 79 => ⟨S4x16x28x28, .f32⟩
  | 80 => ⟨S4x16x28x28, .f32⟩
  | 81 => ⟨S_, .f32⟩
  | 82 => ⟨S4x16x28x28, .f32⟩
  | 83 => ⟨S4x16x28x28, .f32⟩
  | 84 => ⟨S4x16x28x28, .i32⟩
  | 85 => ⟨S_, .i32⟩
  | 86 => ⟨S4x16x28x28, .i32⟩
  | 87 => ⟨S4x16x28x28, .i32⟩
  | 88 => ⟨S_, .i32⟩
  | 89 => ⟨S4x16x28x28, .i32⟩
  | 90 => ⟨S4x16x28x28, .i1⟩
  | 91 => ⟨S_, .i32⟩
  | 92 => ⟨S4x16x28x28, .i32⟩
  | 93 => ⟨S4x16x28x28, .i1⟩
  | 94 => ⟨S4x16x28x28, .i1⟩
  | 95 => ⟨S_, .i32⟩
  | 96 => ⟨S4x16x28x28, .i32⟩
  | 97 => ⟨S4x16x28x28, .i1⟩
  | 98 => ⟨S_, .i32⟩
  | 99 => ⟨S4x16x28x28, .i32⟩
  | 100 => ⟨S4x16x28x28, .i1⟩
  | 101 => ⟨S4x16x28x28, .i1⟩
  | 102 => ⟨S4x16x28x28, .i1⟩
  | 103 => ⟨S_, .i32⟩
  | 104 => ⟨S4x16x28x28, .i32⟩
  | 105 => ⟨S4x16x28x28, .i1⟩
  | 106 => ⟨S_, .i32⟩
  | 107 => ⟨S4x16x28x28, .i32⟩
  | 108 => ⟨S4x16x28x28, .i32⟩
  | 109 => ⟨S4x16x28x28, .i32⟩
  | 110 => ⟨S_, .i32⟩
  | 111 => ⟨S4x16x28x28, .i32⟩
  | 112 => ⟨S4x16x28x28, .i1⟩
  | 113 => ⟨S_, .i32⟩
  | 114 => ⟨S4x16x28x28, .i32⟩
  | 115 => ⟨S4x16x28x28, .i32⟩
  | 116 => ⟨S4x16x28x28, .i32⟩
  | 117 => ⟨S4x16x28x28x1, .i32⟩
  | 118 => ⟨S4x16x28x28x1, .i32⟩
  | 119 => ⟨S4x16x28x28x2, .i32⟩
  | 120 => ⟨S4x16x28x28, .f32⟩
  | 121 => ⟨S_, .f32⟩
  | 122 => ⟨S28x28, .f32⟩
  | 123 => ⟨S16x28x28, .f32⟩
  | 124 => ⟨S4x16x28x28, .f32⟩
  | 125 => ⟨S4x16x28x28, .f32⟩
  | 126 => ⟨S4x16x28x28, .f32⟩
  | 127 => ⟨S4x16x28x28, .f32⟩
  | _ => ⟨S4x16x800x800, .f32⟩

abbrev hbmTy0_1 (i : Nat) : BufTy := match i % 128 with
  | 0 => ⟨S4x16x28x28, .i1⟩
  | 1 => ⟨S_, .i32⟩
  | 2 => ⟨S4x16x28x28, .i32⟩
  | 3 => ⟨S4x16x28x28, .i1⟩
  | 4 => ⟨S_, .i32⟩
  | 5 => ⟨S4x16x28x28, .i32⟩
  | 6 => ⟨S4x16x28x28, .i32⟩
  | 7 => ⟨S4x16x28x28, .i32⟩
  | 8 => ⟨S_, .i32⟩
  | 9 => ⟨S4x16x28x28, .i32⟩
  | 10 => ⟨S4x16x28x28, .i1⟩
  | 11 => ⟨S_, .i32⟩
  | 12 => ⟨S4x16x28x28, .i32⟩
  | 13 => ⟨S4x16x28x28, .i32⟩
  | 14 => ⟨S4x16x28x28, .i32⟩
  | 15 => ⟨S4x16x28x28x1, .i32⟩
  | 16 => ⟨S4x16x28x28x1, .i32⟩
  | 17 => ⟨S4x16x28x28x2, .i32⟩
  | 18 => ⟨S4x16x28x28, .f32⟩
  | 19 => ⟨S_, .f32⟩
  | 20 => ⟨S28x28, .f32⟩
  | 21 => ⟨S16x28x28, .f32⟩
  | 22 => ⟨S4x16x28x28, .f32⟩
  | 23 => ⟨S4x16x28x28, .f32⟩
  | 24 => ⟨S4x16x28x28, .f32⟩
  | 25 => ⟨S4x16x28x28, .f32⟩
  | 26 => ⟨S4x16x28x28, .i1⟩
  | 27 => ⟨S_, .i32⟩
  | 28 => ⟨S4x16x28x28, .i32⟩
  | 29 => ⟨S4x16x28x28, .i1⟩
  | 30 => ⟨S_, .i32⟩
  | 31 => ⟨S4x16x28x28, .i32⟩
  | 32 => ⟨S4x16x28x28, .i32⟩
  | 33 => ⟨S4x16x28x28, .i32⟩
  | 34 => ⟨S_, .i32⟩
  | 35 => ⟨S4x16x28x28, .i32⟩
  | 36 => ⟨S4x16x28x28, .i1⟩
  | 37 => ⟨S_, .i32⟩
  | 38 => ⟨S4x16x28x28, .i32⟩
  | 39 => ⟨S4x16x28x28, .i32⟩
  | 40 => ⟨S4x16x28x28, .i32⟩
  | 41 => ⟨S4x16x28x28x1, .i32⟩
  | 42 => ⟨S4x16x28x28x1, .i32⟩
  | 43 => ⟨S4x16x28x28x2, .i32⟩
  | 44 => ⟨S4x16x28x28, .f32⟩
  | 45 => ⟨S_, .f32⟩
  | 46 => ⟨S28x28, .f32⟩
  | 47 => ⟨S16x28x28, .f32⟩
  | 48 => ⟨S4x16x28x28, .f32⟩
  | 49 => ⟨S4x16x28x28, .f32⟩
  | 50 => ⟨S4x16x28x28, .f32⟩
  | 51 => ⟨S4x16x28x28, .f32⟩
  | 52 => ⟨S4x16x28x28, .i1⟩
  | 53 => ⟨S_, .i32⟩
  | 54 => ⟨S4x16x28x28, .i32⟩
  | 55 => ⟨S4x16x28x28, .i1⟩
  | 56 => ⟨S_, .i32⟩
  | 57 => ⟨S4x16x28x28, .i32⟩
  | 58 => ⟨S4x16x28x28, .i32⟩
  | 59 => ⟨S4x16x28x28, .i32⟩
  | 60 => ⟨S_, .i32⟩
  | 61 => ⟨S4x16x28x28, .i32⟩
  | 62 => ⟨S4x16x28x28, .i1⟩
  | 63 => ⟨S_, .i32⟩
  | 64 => ⟨S4x16x28x28, .i32⟩
  | 65 => ⟨S4x16x28x28, .i32⟩
  | 66 => ⟨S4x16x28x28, .i32⟩
  | 67 => ⟨S4x16x28x28x1, .i32⟩
  | 68 => ⟨S4x16x28x28x1, .i32⟩
  | 69 => ⟨S4x16x28x28x2, .i32⟩
  | 70 => ⟨S4x16x28x28, .f32⟩
  | 71 => ⟨S_, .f32⟩
  | 72 => ⟨S28x28, .f32⟩
  | 73 => ⟨S16x28x28, .f32⟩
  | 74 => ⟨S4x16x28x28, .f32⟩
  | 75 => ⟨S4x16x28x28, .f32⟩
  | 76 => ⟨S4x16x28x28, .f32⟩
  | 77 => ⟨S4x16x28x28, .f32⟩
  | 78 => ⟨S4x16x28x28, .f32⟩
  | 79 => ⟨S4x16x28x28, .f32⟩
  | 80 => ⟨S4x16x28x28, .f32⟩
  | 81 => ⟨S_, .f32⟩
  | 82 => ⟨S4x16x28x28, .f32⟩
  | 83 => ⟨S4x16x28x28, .i1⟩
  | 84 => ⟨S4x16x28x28, .f32⟩
  | 85 => ⟨S64x28x28, .f32⟩
  | 86 => ⟨S64x28x28, .f32⟩
  | _ => ⟨S4x16x800x800, .f32⟩

abbrev hbmTy (i : Nat) : BufTy := match i / 128 with
  | 0 => hbmTy0_0 i
  | 1 => hbmTy0_1 i
  | _ => ⟨S4x16x800x800, .f32⟩

abbrev bufTy : (tb : Table) → Fin (tcTables nBuf tb) → BufTy
  | .hbm, ⟨i, _⟩ => hbmTy i
  | _, _ => ⟨S4x16x800x800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_1 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_2 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_3 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_4 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_c : Ref sig .tc := ⟨.hbm, 62, rfl⟩
abbrev main_call0_v5 : Ref sig .tc := ⟨.hbm, 63, rfl⟩
abbrev main_call0_v6 : Ref sig .tc := ⟨.hbm, 64, rfl⟩
abbrev main_call0_c_0 : Ref sig .tc := ⟨.hbm, 65, rfl⟩
abbrev main_call0_v7 : Ref sig .tc := ⟨.hbm, 66, rfl⟩
abbrev main_call0_v8 : Ref sig .tc := ⟨.hbm, 67, rfl⟩
abbrev main_call0_c_1 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_c_2 : Ref sig .tc := ⟨.hbm, 72, rfl⟩
abbrev main_call0_v12 : Ref sig .tc := ⟨.hbm, 73, rfl⟩
abbrev main_call0_v13 : Ref sig .tc := ⟨.hbm, 74, rfl⟩
abbrev main_call0_c_3 : Ref sig .tc := ⟨.hbm, 75, rfl⟩
abbrev main_call0_v14 : Ref sig .tc := ⟨.hbm, 76, rfl⟩
abbrev main_call0_v15 : Ref sig .tc := ⟨.hbm, 77, rfl⟩
abbrev main_call0_v16 : Ref sig .tc := ⟨.hbm, 78, rfl⟩
abbrev main_call0_v17 : Ref sig .tc := ⟨.hbm, 79, rfl⟩
abbrev main_call0_v18 : Ref sig .tc := ⟨.hbm, 80, rfl⟩
abbrev main_call0_cst_4 : Ref sig .tc := ⟨.hbm, 81, rfl⟩
abbrev main_call0_v19 : Ref sig .tc := ⟨.hbm, 82, rfl⟩
abbrev main_call0_v20 : Ref sig .tc := ⟨.hbm, 83, rfl⟩
abbrev main_call0_v21 : Ref sig .tc := ⟨.hbm, 84, rfl⟩
abbrev main_call0_c_5 : Ref sig .tc := ⟨.hbm, 85, rfl⟩
abbrev main_call0_v22 : Ref sig .tc := ⟨.hbm, 86, rfl⟩
abbrev main_call0_v23 : Ref sig .tc := ⟨.hbm, 87, rfl⟩
abbrev main_call0_c_6 : Ref sig .tc := ⟨.hbm, 88, rfl⟩
abbrev main_call0_v24 : Ref sig .tc := ⟨.hbm, 89, rfl⟩
abbrev main_call0_v25 : Ref sig .tc := ⟨.hbm, 90, rfl⟩
abbrev main_call0_c_7 : Ref sig .tc := ⟨.hbm, 91, rfl⟩
abbrev main_call0_v26 : Ref sig .tc := ⟨.hbm, 92, rfl⟩
abbrev main_call0_v27 : Ref sig .tc := ⟨.hbm, 93, rfl⟩
abbrev main_call0_v28 : Ref sig .tc := ⟨.hbm, 94, rfl⟩
abbrev main_call0_c_8 : Ref sig .tc := ⟨.hbm, 95, rfl⟩
abbrev main_call0_v29 : Ref sig .tc := ⟨.hbm, 96, rfl⟩
abbrev main_call0_v30 : Ref sig .tc := ⟨.hbm, 97, rfl⟩
abbrev main_call0_c_9 : Ref sig .tc := ⟨.hbm, 98, rfl⟩
abbrev main_call0_v31 : Ref sig .tc := ⟨.hbm, 99, rfl⟩
abbrev main_call0_v32 : Ref sig .tc := ⟨.hbm, 100, rfl⟩
abbrev main_call0_v33 : Ref sig .tc := ⟨.hbm, 101, rfl⟩
abbrev main_call0_v34 : Ref sig .tc := ⟨.hbm, 102, rfl⟩
abbrev main_call0_c_10 : Ref sig .tc := ⟨.hbm, 103, rfl⟩
abbrev main_call0_v35 : Ref sig .tc := ⟨.hbm, 104, rfl⟩
abbrev main_call0_v36 : Ref sig .tc := ⟨.hbm, 105, rfl⟩
abbrev main_call0_c_11 : Ref sig .tc := ⟨.hbm, 106, rfl⟩
abbrev main_call0_v37 : Ref sig .tc := ⟨.hbm, 107, rfl⟩
abbrev main_call0_v38 : Ref sig .tc := ⟨.hbm, 108, rfl⟩
abbrev main_call0_v39 : Ref sig .tc := ⟨.hbm, 109, rfl⟩
abbrev main_call0_c_12 : Ref sig .tc := ⟨.hbm, 110, rfl⟩
abbrev main_call0_v40 : Ref sig .tc := ⟨.hbm, 111, rfl⟩
abbrev main_call0_v41 : Ref sig .tc := ⟨.hbm, 112, rfl⟩
abbrev main_call0_c_13 : Ref sig .tc := ⟨.hbm, 113, rfl⟩
abbrev main_call0_v42 : Ref sig .tc := ⟨.hbm, 114, rfl⟩
abbrev main_call0_v43 : Ref sig .tc := ⟨.hbm, 115, rfl⟩
abbrev main_call0_v44 : Ref sig .tc := ⟨.hbm, 116, rfl⟩
abbrev main_call0_v45 : Ref sig .tc := ⟨.hbm, 117, rfl⟩
abbrev main_call0_v46 : Ref sig .tc := ⟨.hbm, 118, rfl⟩
abbrev main_call0_v47 : Ref sig .tc := ⟨.hbm, 119, rfl⟩
abbrev main_call0_v48 : Ref sig .tc := ⟨.hbm, 120, rfl⟩
abbrev main_call0_cst_14 : Ref sig .tc := ⟨.hbm, 121, rfl⟩
abbrev main_call0_call0_v0 : Ref sig .tc := ⟨.hbm, 122, rfl⟩
abbrev main_call0_call0_v1 : Ref sig .tc := ⟨.hbm, 123, rfl⟩
abbrev main_call0_call0_v2 : Ref sig .tc := ⟨.hbm, 124, rfl⟩
abbrev main_call0_v49 : Ref sig .tc := ⟨.hbm, 125, rfl⟩
abbrev main_call0_v50 : Ref sig .tc := ⟨.hbm, 126, rfl⟩
abbrev main_call0_v51 : Ref sig .tc := ⟨.hbm, 127, rfl⟩
abbrev main_call0_v52 : Ref sig .tc := ⟨.hbm, 128, rfl⟩
abbrev main_call0_c_15 : Ref sig .tc := ⟨.hbm, 129, rfl⟩
abbrev main_call0_v53 : Ref sig .tc := ⟨.hbm, 130, rfl⟩
abbrev main_call0_v54 : Ref sig .tc := ⟨.hbm, 131, rfl⟩
abbrev main_call0_c_16 : Ref sig .tc := ⟨.hbm, 132, rfl⟩
abbrev main_call0_v55 : Ref sig .tc := ⟨.hbm, 133, rfl⟩
abbrev main_call0_v56 : Ref sig .tc := ⟨.hbm, 134, rfl⟩
abbrev main_call0_v57 : Ref sig .tc := ⟨.hbm, 135, rfl⟩
abbrev main_call0_c_17 : Ref sig .tc := ⟨.hbm, 136, rfl⟩
abbrev main_call0_v58 : Ref sig .tc := ⟨.hbm, 137, rfl⟩
abbrev main_call0_v59 : Ref sig .tc := ⟨.hbm, 138, rfl⟩
abbrev main_call0_c_18 : Ref sig .tc := ⟨.hbm, 139, rfl⟩
abbrev main_call0_v60 : Ref sig .tc := ⟨.hbm, 140, rfl⟩
abbrev main_call0_v61 : Ref sig .tc := ⟨.hbm, 141, rfl⟩
abbrev main_call0_v62 : Ref sig .tc := ⟨.hbm, 142, rfl⟩
abbrev main_call0_v63 : Ref sig .tc := ⟨.hbm, 143, rfl⟩
abbrev main_call0_v64 : Ref sig .tc := ⟨.hbm, 144, rfl⟩
abbrev main_call0_v65 : Ref sig .tc := ⟨.hbm, 145, rfl⟩
abbrev main_call0_v66 : Ref sig .tc := ⟨.hbm, 146, rfl⟩
abbrev main_call0_cst_19 : Ref sig .tc := ⟨.hbm, 147, rfl⟩
abbrev main_call0_call1_v0 : Ref sig .tc := ⟨.hbm, 148, rfl⟩
abbrev main_call0_call1_v1 : Ref sig .tc := ⟨.hbm, 149, rfl⟩
abbrev main_call0_call1_v2 : Ref sig .tc := ⟨.hbm, 150, rfl⟩
abbrev main_call0_v67 : Ref sig .tc := ⟨.hbm, 151, rfl⟩
abbrev main_call0_v68 : Ref sig .tc := ⟨.hbm, 152, rfl⟩
abbrev main_call0_v69 : Ref sig .tc := ⟨.hbm, 153, rfl⟩
abbrev main_call0_v70 : Ref sig .tc := ⟨.hbm, 154, rfl⟩
abbrev main_call0_c_20 : Ref sig .tc := ⟨.hbm, 155, rfl⟩
abbrev main_call0_v71 : Ref sig .tc := ⟨.hbm, 156, rfl⟩
abbrev main_call0_v72 : Ref sig .tc := ⟨.hbm, 157, rfl⟩
abbrev main_call0_c_21 : Ref sig .tc := ⟨.hbm, 158, rfl⟩
abbrev main_call0_v73 : Ref sig .tc := ⟨.hbm, 159, rfl⟩
abbrev main_call0_v74 : Ref sig .tc := ⟨.hbm, 160, rfl⟩
abbrev main_call0_v75 : Ref sig .tc := ⟨.hbm, 161, rfl⟩
abbrev main_call0_c_22 : Ref sig .tc := ⟨.hbm, 162, rfl⟩
abbrev main_call0_v76 : Ref sig .tc := ⟨.hbm, 163, rfl⟩
abbrev main_call0_v77 : Ref sig .tc := ⟨.hbm, 164, rfl⟩
abbrev main_call0_c_23 : Ref sig .tc := ⟨.hbm, 165, rfl⟩
abbrev main_call0_v78 : Ref sig .tc := ⟨.hbm, 166, rfl⟩
abbrev main_call0_v79 : Ref sig .tc := ⟨.hbm, 167, rfl⟩
abbrev main_call0_v80 : Ref sig .tc := ⟨.hbm, 168, rfl⟩
abbrev main_call0_v81 : Ref sig .tc := ⟨.hbm, 169, rfl⟩
abbrev main_call0_v82 : Ref sig .tc := ⟨.hbm, 170, rfl⟩
abbrev main_call0_v83 : Ref sig .tc := ⟨.hbm, 171, rfl⟩
abbrev main_call0_v84 : Ref sig .tc := ⟨.hbm, 172, rfl⟩
abbrev main_call0_cst_24 : Ref sig .tc := ⟨.hbm, 173, rfl⟩
abbrev main_call0_call2_v0 : Ref sig .tc := ⟨.hbm, 174, rfl⟩
abbrev main_call0_call2_v1 : Ref sig .tc := ⟨.hbm, 175, rfl⟩
abbrev main_call0_call2_v2 : Ref sig .tc := ⟨.hbm, 176, rfl⟩
abbrev main_call0_v85 : Ref sig .tc := ⟨.hbm, 177, rfl⟩
abbrev main_call0_v86 : Ref sig .tc := ⟨.hbm, 178, rfl⟩
abbrev main_call0_v87 : Ref sig .tc := ⟨.hbm, 179, rfl⟩
abbrev main_call0_v88 : Ref sig .tc := ⟨.hbm, 180, rfl⟩
abbrev main_call0_c_25 : Ref sig .tc := ⟨.hbm, 181, rfl⟩
abbrev main_call0_v89 : Ref sig .tc := ⟨.hbm, 182, rfl⟩
abbrev main_call0_v90 : Ref sig .tc := ⟨.hbm, 183, rfl⟩
abbrev main_call0_c_26 : Ref sig .tc := ⟨.hbm, 184, rfl⟩
abbrev main_call0_v91 : Ref sig .tc := ⟨.hbm, 185, rfl⟩
abbrev main_call0_v92 : Ref sig .tc := ⟨.hbm, 186, rfl⟩
abbrev main_call0_v93 : Ref sig .tc := ⟨.hbm, 187, rfl⟩
abbrev main_call0_c_27 : Ref sig .tc := ⟨.hbm, 188, rfl⟩
abbrev main_call0_v94 : Ref sig .tc := ⟨.hbm, 189, rfl⟩
abbrev main_call0_v95 : Ref sig .tc := ⟨.hbm, 190, rfl⟩
abbrev main_call0_c_28 : Ref sig .tc := ⟨.hbm, 191, rfl⟩
abbrev main_call0_v96 : Ref sig .tc := ⟨.hbm, 192, rfl⟩
abbrev main_call0_v97 : Ref sig .tc := ⟨.hbm, 193, rfl⟩
abbrev main_call0_v98 : Ref sig .tc := ⟨.hbm, 194, rfl⟩
abbrev main_call0_v99 : Ref sig .tc := ⟨.hbm, 195, rfl⟩
abbrev main_call0_v100 : Ref sig .tc := ⟨.hbm, 196, rfl⟩
abbrev main_call0_v101 : Ref sig .tc := ⟨.hbm, 197, rfl⟩
abbrev main_call0_v102 : Ref sig .tc := ⟨.hbm, 198, rfl⟩
abbrev main_call0_cst_29 : Ref sig .tc := ⟨.hbm, 199, rfl⟩
abbrev main_call0_call3_v0 : Ref sig .tc := ⟨.hbm, 200, rfl⟩
abbrev main_call0_call3_v1 : Ref sig .tc := ⟨.hbm, 201, rfl⟩
abbrev main_call0_call3_v2 : Ref sig .tc := ⟨.hbm, 202, rfl⟩
abbrev main_call0_v103 : Ref sig .tc := ⟨.hbm, 203, rfl⟩
abbrev main_call0_v104 : Ref sig .tc := ⟨.hbm, 204, rfl⟩
abbrev main_call0_v105 : Ref sig .tc := ⟨.hbm, 205, rfl⟩
abbrev main_call0_v106 : Ref sig .tc := ⟨.hbm, 206, rfl⟩
abbrev main_call0_v107 : Ref sig .tc := ⟨.hbm, 207, rfl⟩
abbrev main_v48 : Ref sig .tc := ⟨.hbm, 208, rfl⟩
abbrev main_cst_5 : Ref sig .tc := ⟨.hbm, 209, rfl⟩
abbrev main_v49 : Ref sig .tc := ⟨.hbm, 210, rfl⟩
abbrev main_v50 : Ref sig .tc := ⟨.hbm, 211, rfl⟩
abbrev main_v51 : Ref sig .tc := ⟨.hbm, 212, rfl⟩
abbrev main_v52 : Ref sig .tc := ⟨.hbm, 213, rfl⟩
abbrev main_v53 : Ref sig .tc := ⟨.hbm, 214, rfl⟩

abbrev nD : Nat := 1
abbrev τ : Topo := Topo.v7x

variable {F : FTy → Type} [FloatOps F]
-- ==== Match.lean ====
abbrev S4x500x80 : Shape := ⟨3, ![4, 500, 80]⟩
abbrev S4x500x4 : Shape := ⟨3, ![4, 500, 4]⟩
abbrev S4x16 : Shape := ⟨2, ![4, 16]⟩
abbrev S4x16x4 : Shape := ⟨3, ![4, 16, 4]⟩
abbrev S4x16x500 : Shape := ⟨3, ![4, 16, 500]⟩
abbrev S4x16x784 : Shape := ⟨3, ![4, 16, 784]⟩
abbrev S4x4 : Shape := ⟨2, ![4, 4]⟩
abbrev S4x80x500 : Shape := ⟨3, ![4, 80, 500]⟩
abbrev S4x4x500 : Shape := ⟨3, ![4, 4, 500]⟩
abbrev S4x16x1 : Shape := ⟨3, ![4, 16, 1]⟩
abbrev S4x4x1 : Shape := ⟨3, ![4, 4, 1]⟩
abbrev S4x1x4 : Shape := ⟨3, ![4, 1, 4]⟩
abbrev S4x8x128 : Shape := ⟨3, ![4, 8, 128]⟩
abbrev S1x80x500 : Shape := ⟨3, ![1, 80, 500]⟩
abbrev S1x4x500 : Shape := ⟨3, ![1, 4, 500]⟩
abbrev S1x16x4 : Shape := ⟨3, ![1, 16, 4]⟩
abbrev S1x16x1 : Shape := ⟨3, ![1, 16, 1]⟩
abbrev S1x16x500 : Shape := ⟨3, ![1, 16, 500]⟩
abbrev S1x16x784 : Shape := ⟨3, ![1, 16, 784]⟩
abbrev S1x4x1 : Shape := ⟨3, ![1, 4, 1]⟩
abbrev S1x1x4 : Shape := ⟨3, ![1, 1, 4]⟩
abbrev S1x8x128 : Shape := ⟨3, ![1, 8, 128]⟩
abbrev S80x500 : Shape := ⟨2, ![80, 500]⟩
abbrev S4x500 : Shape := ⟨2, ![4, 500]⟩
abbrev S16x4 : Shape := ⟨2, ![16, 4]⟩
abbrev S16x1 : Shape := ⟨2, ![16, 1]⟩
abbrev S16x500 : Shape := ⟨2, ![16, 500]⟩
abbrev S16x784 : Shape := ⟨2, ![16, 784]⟩
abbrev S4x1 : Shape := ⟨2, ![4, 1]⟩
abbrev S1x4 : Shape := ⟨2, ![1, 4]⟩
abbrev S1x500 : Shape := ⟨2, ![1, 500]⟩
abbrev S500 : Shape := ⟨1, ![500]⟩
abbrev S16x80 : Shape := ⟨2, ![16, 80]⟩
abbrev S16 : Shape := ⟨1, ![16]⟩
abbrev S1 : Shape := ⟨1, ![1]⟩
abbrev S1x1 : Shape := ⟨2, ![1, 1]⟩
abbrev S1x128 : Shape := ⟨2, ![1, 128]⟩
abbrev S1x1x128 : Shape := ⟨3, ![1, 1, 128]⟩
abbrev S4x5x1 : Shape := ⟨3, ![4, 5, 1]⟩
abbrev S4x5 : Shape := ⟨2, ![4, 5]⟩

abbrev nBuf : Space → Nat
  | .hbm => 17
  | .vmem => 20
  | .smem => 0
  | _ => 0

abbrev bufTy : (tb : Table) → Fin (tcTables nBuf tb) → BufTy
  | .hbm, ⟨0, _⟩ => ⟨S4x500x80, .f32⟩
  | .hbm, ⟨1, _⟩ => ⟨S4x500x4, .f32⟩
  | .hbm, ⟨2, _⟩ => ⟨S4x16, .i32⟩
  | .hbm, ⟨3, _⟩ => ⟨S4x16x4, .f32⟩
  | .hbm, ⟨4, _⟩ => ⟨S4x16x500, .f32⟩
  | .hbm, ⟨5, _⟩ => ⟨S4x16x500, .f32⟩
  | .hbm, ⟨6, _⟩ => ⟨S4x16x784, .f32⟩
  | .hbm, ⟨7, _⟩ => ⟨S4x4, .f32⟩
  | .hbm, ⟨8, _⟩ => ⟨S4x80x500, .f32⟩
  | .hbm, ⟨9, _⟩ => ⟨S4x4x500, .f32⟩
  | .hbm, ⟨10, _⟩ => ⟨S4x16, .f32⟩
  | .hbm, ⟨11, _⟩ => ⟨S4x16x1, .f32⟩
  | .hbm, ⟨12, _⟩ => ⟨S4x4x1, .f32⟩
  | .hbm, ⟨13, _⟩ => ⟨S4x1x4, .f32⟩
  | .hbm, ⟨14, _⟩ => ⟨S4x8x128, .f32⟩
  | .hbm, ⟨15, _⟩ => ⟨S4x5x1, .f32⟩
  | .hbm, ⟨16, _⟩ => ⟨S4x5, .f32⟩
  | .local _ .vmem, ⟨0, _⟩ => ⟨S1x80x500, .f32⟩
  | .local _ .vmem, ⟨1, _⟩ => ⟨S1x80x500, .f32⟩
  | .local _ .vmem, ⟨2, _⟩ => ⟨S1x4x500, .f32⟩
  | .local _ .vmem, ⟨3, _⟩ => ⟨S1x4x500, .f32⟩
  | .local _ .vmem, ⟨4, _⟩ => ⟨S1x16x4, .f32⟩
  | .local _ .vmem, ⟨5, _⟩ => ⟨S1x16x4, .f32⟩
  | .local _ .vmem, ⟨6, _⟩ => ⟨S1x16x1, .f32⟩
  | .local _ .vmem, ⟨7, _⟩ => ⟨S1x16x1, .f32⟩
  | .local _ .vmem, ⟨8, _⟩ => ⟨S1x16x500, .f32⟩
  | .local _ .vmem, ⟨9, _⟩ => ⟨S1x16x500, .f32⟩
  | .local _ .vmem, ⟨10, _⟩ => ⟨S1x16x500, .f32⟩
  | .local _ .vmem, ⟨11, _⟩ => ⟨S1x16x500, .f32⟩
  | .local _ .vmem, ⟨12, _⟩ => ⟨S1x16x784, .f32⟩
  | .local _ .vmem, ⟨13, _⟩ => ⟨S1x16x784, .f32⟩
  | .local _ .vmem, ⟨14, _⟩ => ⟨S1x4x1, .f32⟩
  | .local _ .vmem, ⟨15, _⟩ => ⟨S1x4x1, .f32⟩
  | .local _ .vmem, ⟨16, _⟩ => ⟨S1x1x4, .f32⟩
  | .local _ .vmem, ⟨17, _⟩ => ⟨S1x1x4, .f32⟩
  | .local _ .vmem, ⟨18, _⟩ => ⟨S1x8x128, .f32⟩
  | .local _ .vmem, ⟨19, _⟩ => ⟨S1x8x128, .f32⟩
  | _, _ => ⟨S4x500x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x80x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x500 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x500 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x500 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x784 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Proof.StatsIdealRing.lean ====
/- The mask-statistics call: the host operations before the region, the memrefs its body is handed, and the two-slot
   ring that streams the class planes of the masks from HBM through VMEM. Step `b` of the grid works on ground-truth
   box `b % 16` of image `b / 16`; the plane it needs is the one of the class the table names at `b`. -/
module

public import proofs.«01_k».proof.Proof.Gen.StatsIdeal.Launch
public import proofs.«01_k».proof.Proof.Gen.StatsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueIdxCore

@[expose] public section

set_option maxRecDepth 16384

noncomputable section

namespace Cert.StatsIdeal.Own

open Cert.StatsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Up to the region -/

/-- What core `c`'s buffers hold when the region is entered: the masks transposed, the class table flattened. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The class table -/

/-- The table when the region is entered (there is one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No window's place depends on the table, so any contents are admissible. -/
abbrev adm : (pcfg0 (F := F)).Adm := ⟨tbl m, trivial⟩
abbrev cfgM : Pipeline.Cfg sig Λ₀ := cfg0 (adm m)

abbrev tabM : Memref sig .tc .smem S64 .i32 := Memref.whole main_v1
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f
theorem PhiT_eq (c : Dev nD) : (Pipeline.ΦT pre0 (tbl m) c : sProp 𝕄) = iprop(tbPt c tabM (tbl m 0)) := by
  unfold Pipeline.ΦT Pipeline.prefHeld
  rw [show (Finset.univ : Finset (Fin 1)) = {(0 : Fin 1)} from by decide, bigSep_singleton]
  rfl

/-- The table's words. -/
abbrev words {c : Dev nD} (T : TbBuf (F := F) c tabM) : S64.Idx → BitVec 32 := fun j => tabM.view.read (Elt F) T j
/-- The words name classes. -/
def InRange (w : S64.Idx → BitVec 32) : Prop := ∀ j, (w j).toNat < 80
/-- The class of step `b`, kept below the number of classes so that its plane always exists. -/
def cls (w : S64.Idx → BitVec 32) (b : Fin 64) : ℕ := min (w (ValueIdx.ix1 b)).toNat 79
omit [FloatOps F] in
theorem cls_eq {w : S64.Idx → BitVec 32} (hw : InRange w) (b : Fin 64) : (w (ValueIdx.ix1 b)).toNat = cls w b := by
  have := hw (ValueIdx.ix1 b); unfold cls; omega

/-! ## The windows -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before_0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

abbrev ms_0 (t : Fin (cfgM m).N) : Memref sig .tc .vmem S1x28x28 .f32 := spec0_0.stage ((cfgM m).slots t 0)
abbrev hs_0 (t : Fin (cfgM m).N) : (ms_0 m t).IsWhole := hstage0_0 (((cfgM m).slots t 0).cast nbuf0_0)
abbrev ms_1 (t : Fin (cfgM m).N) : Memref sig .tc .vmem S1x1x1x500 .f32 := spec0_1.stage ((cfgM m).slots t 1)
abbrev hs_1 (t : Fin (cfgM m).N) : (ms_1 m t).IsWhole := hstage0_1 (((cfgM m).slots t 1).cast nbuf0_1)
abbrev ms_2 (t : Fin (cfgM m).N) : Memref sig .tc .vmem S1x1x1x500 .f32 := spec0_2.stage ((cfgM m).slots t 2)
abbrev hs_2 (t : Fin (cfgM m).N) : (ms_2 m t).IsWhole := hstage0_2 (((cfgM m).slots t 2).cast nbuf0_2)

/-! ## The body's branches -/

abbrev condA (i : grid0.Coords) : Prop := k0_cond1 i = 1#1
/-- The first branch is taken at the first point only. -/
theorem hcondA : ∀ t : Fin grid0.N, condA (grid0.coords t) ↔ t.val = 0 := by decide +kernel
abbrev condB (i : grid0.Coords) : Prop := k0_cond2 i = 1#1
/-- The second is taken before the last point. -/
theorem hcondB : ∀ t : Fin grid0.N, condB (grid0.coords t) ↔ t.val < 63 := by decide +kernel

/-! ## The operands of the body's own transfers -/

abbrev scrM : Memref sig .tc .vmem S2x28x28x500 .f32 := Memref.whole cc0_scratch0
abbrev poolM : Memref sig .tc .hbm S4x28x28x80x500 .f32 := Memref.whole main_v0
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

abbrev osem : Fin 2 → SemLoc sig := fun j => (![SemLoc.dma 6, SemLoc.dma 7] : Fin 2 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 6) 0 ∗ semVal ((c : Thread nD τ), SemLoc.dma 7) 0) := by
  rw [Pipeline.ownSems0_eq_of_list c osem [0, 1] (by decide) (by decide)]; rfl
def Hs : Finset (Ref sig .tc) := {main_v0}
theorem Hs_sub : Hs ⊆ Pipeline.restRefsP sig pre0 spec0 := by decide
theorem hbmPts_eq (c : Dev nD) :
    (bigSep Hs (fun b => ((c : Thread nD τ).loc b) ↦{fullShare} V m c b) : sProp 𝕄) = iprop(hbPt c poolM (V m c main_v0)) := by
  rw [BI.bigSep_eq_bigSepL_of_eq [main_v0] (by decide) (by decide)]; rfl
/-- What the launch lends the body's transfers, piece by piece. -/
theorem PhiD_eq (c : Dev nD) :
    (Pipeline.ΦD osem spec0 Hs (V m) c : sProp 𝕄)
      = iprop(iprop((∃ d, owns (c : Thread nD τ) scrM fullShare d)) ∗ (∃ r, prngReg c r) ∗ iprop(semVal ((c : Thread nD τ), SemLoc.dma 6) 0 ∗ semVal ((c : Thread nD τ), SemLoc.dma 7) 0) ∗ iprop(hbPt c poolM (V m c main_v0))) := by
  rw [Pipeline.ΦD_eq, scopedRest0_eq, ownSems_eq, hbmPts_eq]; simp only [scrM, owns_whole]; try rfl

/-! ## The ring: slots, planes, cells -/

instance : NeZero grid0.N := ⟨by rw [N_0]; decide⟩
theorem inb_slot (s : Fin 2) : ∀ a, (![s.val, 0, 0, 0] : Fin 4 → Nat) a + S1x28x28x500.size a ≤ S2x28x28x500.size a := by
  have := s.isLt; intro a; fin_cases a <;> simp <;> omega
theorem inb_src (w : S64.Idx → BitVec 32) (b : Fin 64) : ∀ a, (![b.val / 16, 0, 0, cls w b, 0] : Fin 5 → Nat) a + S1x28x28x1x500.size a ≤ S4x28x28x80x500.size a := by
  have hc : cls w b ≤ 79 := by unfold cls; omega
  have := b.isLt; intro a; fin_cases a <;> simp <;> omega
theorem inb_cell (s : Fin 2) : ∀ a, (![s.val] : Fin 1 → Nat) a + S1.size a ≤ S2.size a := by
  have := s.isLt; intro a; fin_cases a <;> simp <;> omega
/-- Slot `s` of the scratch. -/
def slot (s : Fin 2) : Memref sig .tc .vmem S28x28x500 .f32 :=
  (scrM.slice (Rect.unit (s := S2x28x28x500) ![s.val, 0, 0, 0] S1x28x28x500.size (inb_slot s)) (fun _ => rfl)).squeeze S28x28x500 squeezes_S1x28x28x500_S28x28x500
/-- The plane step `b` works on: image `b / 16`, the class the table names. -/
def plane (w : S64.Idx → BitVec 32) (b : Fin 64) : Memref sig .tc .hbm S28x28x500 .f32 :=
  (poolM.slice (Rect.unit (s := S4x28x28x80x500) ![b.val / 16, 0, 0, cls w b, 0] S1x28x28x1x500.size (inb_src w b)) (fun _ => rfl)).squeeze S28x28x500 squeezes_S1x28x28x1x500_S28x28x500
/-- Cell `s` of the semaphores, and its number in the pool. -/
def cellA (s : Fin 2) : DmaSems sig S_ := (cc0_scratch1.slice (Rect.unit (s := S2) ![s.val] S1.size (inb_cell s))).squeeze S_ squeezes_S1_S_
abbrev cellR (s : Fin 2) : SemLoc sig := SemLoc.dma (cellA s).sem
theorem cellR_0 : cellR 0 = SemLoc.dma 6 := by decide
theorem cellR_1 : cellR 1 = SemLoc.dma 7 := by decide

section Families
variable (c : Dev nD) (w : S64.Idx → BitVec 32) (W : HbBuf (F := F) c poolM)
/-- The masks are lent by share, one half to each slot's transfers. -/
abbrev qs (s : Fin 2) : PosShare TreeShare := if s.val = 0 then fullShare.left else fullShare.right
abbrev slotP (s : Fin 2) (f : HbBuf (F := F) c (slot s)) : sProp 𝕄 := (slot s).view.loc (c : Thread nD τ) ↦[(slot s).view.set]{fullShare} f
abbrev cellP (s : Fin 2) : sProp 𝕄 := semVal ((c : Thread nD τ), cellR s) 0
abbrev srcP (s : Fin 2) (b : Fin 64) : sProp 𝕄 := (plane w b).view.loc (c : Thread nD τ) ↦[(plane w b).view.set]{qs s} W
/-- What a slot's half of the masks holds beside the plane in flight. -/
def restP (s : Fin 2) (b : Fin 64) : sProp 𝕄 := ((c : Thread nD τ).loc main_v0) ↦[Finset.univ \ (plane w b).view.set]{qs s} W
abbrev wholeP (s : Fin 2) : sProp 𝕄 := ((c : Thread nD τ).loc main_v0) ↦[Finset.univ]{qs s} W
/-- Slot `s` once plane `b` has landed in it. -/
abbrev landed (s : Fin 2) (b : Fin 64) (f : HbBuf (F := F) c (slot s)) : HbBuf (F := F) c (slot s) :=
  (slot s).view.writes (Elt F) f [⟨Rect.whole S28x28x500, ReadAs.same.apply ((plane w b).view.read (Elt F) W)⟩]
/-- Plane `b` on its way into slot `s`. -/
abbrev flightP (s : Fin 2) (b : Fin 64) (f : HbBuf (F := F) c (slot s)) : sProp 𝕄 :=
  Transfers.Flight countersEmb (c : Thread nD τ) (cellR s) default ((slot s).view.amount (cellR s))
    iprop(slotP c s (landed c w W s b f) ∗ srcP c w W s b)
abbrev slotW (s : Fin 2) (f : HbBuf (F := F) c (slot s)) : sProp 𝕄 := iprop(slotP c s f ∗ wholeP c W s)
abbrev flightW (s : Fin 2) (b : Fin 64) (f : HbBuf (F := F) c (slot s)) : sProp 𝕄 := iprop(flightP c w W s b f ∗ restP c w W s b)
abbrev noHome (b : Fin 64) : sProp 𝕄 := iprop(emp)
/-- The ring before step `k`: both slots free before the first; after that plane `k` on its way into one slot, the other
    still holding plane `k - 1`. -/
def ringAt (k : ℕ) : sProp 𝕄 :=
  if k = 0 then Ring.At₀ (cellP c) (slotW c W) noHome
  else Ring.AtK 1 (cellP c) (slotW c W) noHome (flightW c w W) (landed c w W) k
omit [FloatOps F] in
theorem cellP_0 : cellP (F := F) c 0 = semVal ((c : Thread nD τ), SemLoc.dma 6) 0 := congrArg (fun x => (semVal ((c : Thread nD τ), x) 0 : sProp 𝕄)) cellR_0
omit [FloatOps F] in
theorem cellP_1 : cellP (F := F) c 1 = semVal ((c : Thread nD τ), SemLoc.dma 7) 0 := congrArg (fun x => (semVal ((c : Thread nD τ), x) 0 : sProp 𝕄)) cellR_1
end Families

abbrev slotSet (s : Fin 2) : Finset S2x28x28x500.Idx := (Rect.unit (s := S2x28x28x500) ![s.val, 0, 0, 0] S1x28x28x500.size (inb_slot s)).set
theorem slotSet_eq (s : Fin 2) : (slot s).view.set = slotSet s := by
  simp only [slot, Memref.view_squeeze, View.set_reshape]; exact View.set_slice_whole _ _
theorem slots_disjoint (s s' : Fin 2) (h : s ≠ s') : Disjoint (slotSet s) (slotSet s') :=
  Ring.lead_disjoint (s := S2x28x28x500) (0 : Fin 4) 1 (fun s : Fin 2 => (![s.val, 0, 0, 0] : Fin 4 → Nat)) S1x28x28x500.size inb_slot (fun s => by simp) rfl s s' h
theorem slots_cover : Finset.univ.biUnion slotSet = Finset.univ :=
  Ring.lead_cover (s := S2x28x28x500) (0 : Fin 4) 1 (fun s : Fin 2 => (![s.val, 0, 0, 0] : Fin 4 → Nat)) S1x28x28x500.size inb_slot (fun s => by simp)
    (fun s a ha => by fin_cases a <;> first | exact absurd rfl ha | rfl) rfl (fun a ha => by fin_cases a <;> first | exact absurd rfl ha | rfl) rfl

section InOut
variable (c : Dev nD) (w : S64.Idx → BitVec 32) (W : HbBuf (F := F) c poolM)
theorem slotP_eq (s : Fin 2) (f) : slotP (F := F) c s f = (((c : Thread nD τ).loc cc0_scratch0) ↦[slotSet s]{fullShare} f : sProp 𝕄) := by
  unfold slotP; rw [slotSet_eq]; rfl
theorem src_split (s : Fin 2) (b : Fin 64) : wholeP (F := F) c W s ⊣⊢ iprop(srcP c w W s b ∗ restP c w W s b) := by
  unfold restP; exact pointsTo_split_subset (Finset.subset_univ _)
theorem whole_split : (hbPt c poolM W : sProp 𝕄) ⊣⊢ iprop(wholeP c W 0 ∗ wholeP c W 1) :=
  pointsTo_share (PosShare.mem_left_op_right fullShare)
set_option maxHeartbeats 1000000 in
theorem slots_in : iprop(∃ d, owns (c : Thread nD τ) scrM fullShare d) ⊢ (iprop((∃ f, slotP (F := F) c 0 f) ∗ ∃ f, slotP (F := F) c 1 f) : sProp 𝕄) := by
  simp only [scrM, owns_whole]
  exact Ring.slots2_split (U := Pipeline.UD sig nD τ) (ℓ := (c : Thread nD τ).loc cc0_scratch0) (q := fullShare) slotSet slots_disjoint slots_cover
    (slotP c 0) (slotP c 1) (slotP_eq c 0) (slotP_eq c 1)
set_option maxHeartbeats 1000000 in
theorem slots_out : (iprop((∃ f, slotP (F := F) c 0 f) ∗ ∃ f, slotP (F := F) c 1 f) : sProp 𝕄) ⊢ iprop(∃ d, owns (c : Thread nD τ) scrM fullShare d) := by
  simp only [scrM, owns_whole]
  exact Ring.slots2_join (U := Pipeline.UD sig nD τ) (ℓ := (c : Thread nD τ).loc cc0_scratch0) (q := fullShare) slotSet slots_disjoint slots_cover
    (slotP c 0) (slotP c 1) (slotP_eq c 0) (slotP_eq c 1)

/-- The launch's pieces are the ring before its first step; -/
theorem ring_in :
    iprop((∃ d, owns (c : Thread nD τ) scrM fullShare d) ∗ (semVal ((c : Thread nD τ), SemLoc.dma 6) 0 ∗ semVal ((c : Thread nD τ), SemLoc.dma 7) 0) ∗ hbPt c poolM W)
      ⊢ ringAt c w W 0 := by
  unfold ringAt; rw [if_pos rfl]; unfold Ring.At₀
  rw [Ring.bigSep_fin2]
  simp only [Ring.free, cellP_0, cellP_1]
  iintro ⟨HS, Hc, HW⟩
  iapply Ring.with_homes₀
  icases Hc with ⟨H0, H1⟩
  ihave HS' := (slots_in (F := F) c) $$ HS
  icases HS' with ⟨⟨%d0, HS0⟩, ⟨%d1, HS1⟩⟩
  ihave HW' := (whole_split (F := F) c W).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- and after the last step the ring is those pieces again. -/
theorem ring_out :
    ringAt c w W 64
      ⊢ iprop((∃ d, owns (c : Thread nD τ) scrM fullShare d) ∗ (semVal ((c : Thread nD τ), SemLoc.dma 6) 0 ∗ semVal ((c : Thread nD τ), SemLoc.dma 7) 0) ∗ hbPt c poolM W) := by
  unfold ringAt; rw [if_neg (by decide)]
  iintro H
  ihave H' := (Ring.free2_of_AtK_last _ _ _ _ _) $$ H
  simp only [Ring.free, cellP_0, cellP_1]
  icases H' with ⟨-, ⟨H0, ⟨%f0, HS0, HW0⟩⟩, ⟨H1, ⟨%f1, HS1, HW1⟩⟩⟩
  isplitl [HS0 HS1]
  · iapply (slots_out (F := F) c); isplitl [HS0]; · iexists f0; iexact HS0
    iexists f1; iexact HS1
  isplitl [H0 H1]
  · isplitl [H0]; · iexact H0
    iexact H1
  · iapply (whole_split (F := F) c W).2; isplitl [HW0]; · iexact HW0
    iexact HW1
end InOut

/-! ## The body's spellings of the ring's slots, planes and cells -/

section Canon
omit [FloatOps F]
theorem step_first : ∀ t : Fin grid0.N, condA (grid0.coords t) → t.val = 0 := fun t h => (hcondA t).mp h
theorem sl_0 (t : Fin grid0.N) (h : condA (grid0.coords t)) : Ring.sl 2 t.val = 0 := by rw [step_first t h]; rfl
theorem bk_0 (t : Fin grid0.N) (h : condA (grid0.coords t)) : Ring.bk 64 t.val = 0 := by rw [step_first t h]; rfl
theorem canon_slotA (t : Fin grid0.N) (h : condA (grid0.coords t)) :
    (scrM.slice (Rect.unit (s := S2x28x28x500) ![0, 0, 0, 0] S1x28x28x500.size inb_S2x28x28x500_S1x28x28x500_0_0_0_0) (fun _ => rfl)).squeeze S28x28x500 squeezes_S1x28x28x500_S28x28x500 = slot (Ring.sl 2 t.val) := by
  rw [sl_0 t h]; rfl
theorem canon_cellA (t : Fin grid0.N) (h : condA (grid0.coords t)) :
    (cc0_scratch1.slice (Rect.unit (s := S2) ![0] S1.size inb_S2_S1_0)).squeeze S_ squeezes_S1_S_ = cellA (Ring.sl 2 t.val) := by
  rw [sl_0 t h]; rfl
theorem canon_srcA (w : S64.Idx → BitVec 32) (t : Fin grid0.N) (h : condA (grid0.coords t)) (v : BitVec 32) (hv : v.toNat = cls w (Ring.bk 64 t.val)) (hb) :
    (poolM.slice (Rect.unit (s := S4x28x28x80x500) (k0_off1 v) S1x28x28x1x500.size hb) (fun _ => rfl)).squeeze S28x28x500 squeezes_S1x28x28x1x500_S28x28x500 = plane w (Ring.bk 64 t.val) :=
  congrArg (fun M : Memref sig .tc .hbm S1x28x28x1x500 .f32 => M.squeeze S28x28x500 squeezes_S1x28x28x1x500_S28x28x500)
    (Memref.slice_unit_congr _ (by unfold k0_off1; rw [← hv, bk_0 t h]; rfl) _ _ (fun _ => rfl) (fun _ => rfl))

theorem coff_4 : ∀ t : Fin grid0.N, k0_off4 (grid0.coords t) = ![(Ring.sl 2 (t.val + 1)).val, 0, 0, 0] := by decide +kernel
@[sl_canon] theorem canon_4 (t : Fin grid0.N) (h1 : condB (grid0.coords t)) :
    (scrM.slice (Rect.unit (s := S2x28x28x500) (k0_off4 (grid0.coords t)) S1x28x28x500.size (k0_off4_inb (grid0.coords t) h1)) (fun _ => rfl)).squeeze S28x28x500 squeezes_S1x28x28x500_S28x28x500 = slot (Ring.sl 2 (t.val + 1)) :=
  congrArg (fun M : Memref sig .tc .vmem S1x28x28x500 .f32 => M.squeeze S28x28x500 squeezes_S1x28x28x500_S28x28x500) (Memref.slice_unit_congr _ (coff_4 t) _ _ (fun _ => rfl) (fun _ => rfl))
theorem coff_3 : ∀ t : Fin grid0.N, k0_off3 (grid0.coords t) = ![(Ring.sl 2 (t.val + 1)).val] := by decide +kernel
@[sl_canon] theorem canon_3 (t : Fin grid0.N) (h1 : condB (grid0.coords t)) :
    (cc0_scratch1.slice (Rect.unit (s := S2) (k0_off3 (grid0.coords t)) S1.size (k0_off3_inb (grid0.coords t) h1))).squeeze S_ squeezes_S1_S_ = cellA (Ring.sl 2 (t.val + 1)) :=
  congrArg (fun A : DmaSems sig S1 => A.squeeze S_ squeezes_S1_S_) (SemArray.slice_unit_congr _ (coff_3 t) _ _)
theorem coff_8 : ∀ t : Fin grid0.N, k0_off8 (grid0.coords t) = ![(Ring.sl 2 t.val).val, 0, 0, 0] := by decide +kernel
@[sl_canon] theorem canon_8 (t : Fin grid0.N) :
    (scrM.slice (Rect.unit (s := S2x28x28x500) (k0_off8 (grid0.coords t)) S1x28x28x500.size (k0_off8_inb (grid0.coords t))) (fun _ => rfl)).squeeze S28x28x500 squeezes_S1x28x28x500_S28x28x500 = slot (Ring.sl 2 t.val) :=
  congrArg (fun M : Memref sig .tc .vmem S1x28x28x500 .f32 => M.squeeze S28x28x500 squeezes_S1x28x28x500_S28x28x500) (Memref.slice_unit_congr _ (coff_8 t) _ _ (fun _ => rfl) (fun _ => rfl))
theorem coff_7 : ∀ t : Fin grid0.N, k0_off7 (grid0.coords t) = ![(Ring.sl 2 t.val).val] := by decide +kernel
@[sl_canon] theorem canon_7 (t : Fin grid0.N) :
    (cc0_scratch1.slice (Rect.unit (s := S2) (k0_off7 (grid0.coords t)) S1.size (k0_off7_inb (grid0.coords t)))).squeeze S_ squeezes_S1_S_ = cellA (Ring.sl 2 t.val) :=
  congrArg (fun A : DmaSems sig S1 => A.squeeze S_ squeezes_S1_S_) (SemArray.slice_unit_congr _ (coff_7 t) _ _)
/-- The image of the next step, and of this one. -/
theorem coff_5 : ∀ t : Fin grid0.N, condB (grid0.coords t) → k0_off5 (grid0.coords t) 0#32 0 = (Ring.bk 64 (t.val + 1)).val / 16 := by decide +kernel
theorem coff_9 : ∀ t : Fin grid0.N, k0_off9 (grid0.coords t) 0#32 0 = (Ring.bk 64 t.val).val / 16 := by decide +kernel
theorem off5_eq (t : Fin grid0.N) (h1 : condB (grid0.coords t)) (v : BitVec 32) :
    k0_off5 (grid0.coords t) v = ![(Ring.bk 64 (t.val + 1)).val / 16, 0, 0, v.toNat, 0] := by
  rw [← coff_5 t h1]; rfl
theorem off9_eq (t : Fin grid0.N) (v : BitVec 32) :
    k0_off9 (grid0.coords t) v = ![(Ring.bk 64 t.val).val / 16, 0, 0, v.toNat, 0] := by
  rw [← coff_9 t]; rfl
theorem canon_5 (w : S64.Idx → BitVec 32) (t : Fin grid0.N) (h1 : condB (grid0.coords t)) (v : BitVec 32) (hv : v.toNat = cls w (Ring.bk 64 (t.val + 1))) (hb) :
    (poolM.slice (Rect.unit (s := S4x28x28x80x500) (k0_off5 (grid0.coords t) v) S1x28x28x1x500.size hb) (fun _ => rfl)).squeeze S28x28x500 squeezes_S1x28x28x1x500_S28x28x500 = plane w (Ring.bk 64 (t.val + 1)) :=
  congrArg (fun M : Memref sig .tc .hbm S1x28x28x1x500 .f32 => M.squeeze S28x28x500 squeezes_S1x28x28x1x500_S28x28x500)
    (Memref.slice_unit_congr _ (by rw [off5_eq t h1 v, hv]) _ _ (fun _ => rfl) (fun _ => rfl))
theorem canon_9 (w : S64.Idx → BitVec 32) (t : Fin grid0.N) (v : BitVec 32) (hv : v.toNat = cls w (Ring.bk 64 t.val)) (hb) :
    (poolM.slice (Rect.unit (s := S4x28x28x80x500) (k0_off9 (grid0.coords t) v) S1x28x28x1x500.size hb) (fun _ => rfl)).squeeze S28x28x500 squeezes_S1x28x28x1x500_S28x28x500 = plane w (Ring.bk 64 t.val) :=
  congrArg (fun M : Memref sig .tc .hbm S1x28x28x1x500 .f32 => M.squeeze S28x28x500 squeezes_S1x28x28x1x500_S28x28x500)
    (Memref.slice_unit_congr _ (by rw [off9_eq t v, hv]) _ _ (fun _ => rfl) (fun _ => rfl))
theorem coff_10 : ∀ t : Fin grid0.N, k0_off10 (grid0.coords t) = ![(Ring.sl 2 t.val).val, 0, 0, 0] := by decide +kernel
instance (priority := high) closedOff_10 (t : Fin grid0.N) : ClosedOff (k0_off10 (grid0.coords t)) := ⟨![(Ring.sl 2 t.val).val, 0, 0, 0], coff_10 t⟩

/-! ### The table's words as the body reads them -/

/-- The box of a plane lies in the masks. -/
theorem box_inb {n k : ℕ} (hn : n < 4) (hk : k < 80) : ∀ a, (![n, 0, 0, k, 0] : Fin 5 → ℕ) a + S1x28x28x1x500.size a ≤ S4x28x28x80x500.size a := by
  intro a; fin_cases a <;> simp <;> omega
theorem chk1 (i : grid0.Coords) (v : BitVec 32) (hv : v.toNat < 80) : k0_chk1 i v := fun _ => box_inb (by decide) hv
theorem chk2 (t : Fin grid0.N) (v : BitVec 32) (hv : v.toNat < 80) : k0_chk2 (grid0.coords t) v := fun h1 => by
  rw [off5_eq t h1]; exact box_inb (by have := (Ring.bk 64 (t.val + 1)).isLt; omega) hv
theorem chk3 (t : Fin grid0.N) (v : BitVec 32) (hv : v.toNat < 80) : k0_chk3 (grid0.coords t) v := by
  unfold k0_chk3; rw [off9_eq t]; exact box_inb (by have := (Ring.bk 64 t.val).isLt; omega) hv
end Canon

/-- The word a unit rectangle of the table reads is the table's word there. -/
theorem word_at {c : Dev nD} (T : TbBuf (F := F) c tabM) (off : Fin 1 → ℕ) (hoff) (b : Fin 64) (h : off = ![b.val]) (x) :
    tabM.view.readAt (Elt F) (Rect.unit (s := S64) off S1.size hoff).toLoadRect T x = words T (ValueIdx.ix1 b) := by
  subst h
  rw [View.readAt_apply]
  refine congrArg (tabM.view.read (Elt F) T) ?_
  funext a
  fin_cases a
  apply Fin.ext
  have hx : (x 0).val = 0 := Nat.lt_one_iff.mp (x 0).isLt
  change b.val + 1 * (x 0).val = b.val
  omega
theorem off2_eq : ∀ t : Fin grid0.N, condB (grid0.coords t) → k0_off2 (grid0.coords t) = ![(Ring.bk 64 (t.val + 1)).val] := by decide +kernel
theorem off6_eq : ∀ t : Fin grid0.N, k0_off6 (grid0.coords t) = ![(Ring.bk 64 t.val).val] := by decide +kernel

end Cert.StatsIdeal.Own

end
-- ==== Proof.StatsIdealRun.lean ====
/- The body of the mask-statistics call, run once: what it does at the first point, at a point in between, and at the last. -/
module

public import proofs.«01_k».proof.Proof.StatsIdealRing
public import Idealize.ShloMosaic.Lib.VecWindow

@[expose] public section

set_option maxRecDepth 16384

noncomputable section

namespace Cert.StatsIdeal.Own

open Cert.StatsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What a step computes -/

/-- The plane of step `b`, with the leading unit axis the slot has. -/
def blk {c : Dev nD} (w : S64.Idx → BitVec 32) (X : HbBuf (F := F) c poolM) (b : Fin 64) : Vec F S1x28x28x500 .f32 :=
  fun x => (plane w b).view.read (Elt F) X ((Shape.reshapeEquiv squeezes_S1x28x28x500_S28x28x500.numel_eq).symm x)
/-- What the body loads from a slot a plane has landed in: that plane. -/
theorem load_landed {c : Dev nD} (s : Fin 2) (off : Fin 4 → ℕ) (hoff) (h : off = ![s.val, 0, 0, 0]) (f : HbBuf (F := F) c (slot s)) (p : S28x28x500.Idx → Elt F .f32) :
    scrM.view.readAt (Elt F) (Rect.unit (s := S2x28x28x500) off S1x28x28x500.size hoff).toLoadRect ((slot s).view.writes (Elt F) f [⟨Rect.whole S28x28x500, p⟩])
      = fun x => p ((Shape.reshapeEquiv squeezes_S1x28x28x500_S28x28x500.numel_eq).symm x) := by
  subst h
  funext x
  have hr := congrFun (View.read_writes_whole (slot s).view f p) ((Shape.reshapeEquiv squeezes_S1x28x28x500_S28x28x500.numel_eq).symm x)
  rw [← hr]
  change _ = (scrM.view.slice (Rect.unit (s := S2x28x28x500) ![s.val, 0, 0, 0] S1x28x28x500.size hoff)).read (Elt F) _ (Shape.reshapeEquiv squeezes_S1x28x28x500_S28x28x500.numel_eq ((Shape.reshapeEquiv squeezes_S1x28x28x500_S28x28x500.numel_eq).symm x))
  rw [Equiv.apply_symm_apply]
  rfl
/-- The sigmoid of a plane, as the body computes it. -/
def sigm (p : Vec F S1x28x28x500 .f32) : FVec F S28x28x500 .f32 := k0_pay6 (k0_pay4 p) k0_pay5
/-- The weighted sum of a plane's sigmoids over the box's crop; -/
def outI (x0 : Vec F S1x28x28 .f32) (p : Vec F S1x28x28x500 .f32) : Vec F S1x1x1x500 .f32 :=
  k0_pay1 (k0_pay9 (k0_pay3 x0) (sigm p) (k0_pay8 (k0_pay3 x0) (sigm p) (k0_pay7 (k0_pay3 x0) (k0_pay4 p) k0_pay5)))
/-- and their plain sum. -/
def outM (p : Vec F S1x28x28x500 .f32) : Vec F S1x1x1x500 .f32 := k0_pay2 (sigm p)

variable (c : Dev nD) (t : Fin grid0.N)

section Cases
variable (arg2 : Memref sig .tc .vmem S1x28x28 .f32) (harg2 : arg2.IsWhole)
  (arg4 : Memref sig .tc .vmem S1x1x1x500 .f32) (harg4 : arg4.IsWhole)
  (arg5 : Memref sig .tc .vmem S1x1x1x500 .f32) (harg5 : arg5.IsWhole)
  (x0 : Vec F S1x28x28 .f32) (T : TbBuf (F := F) c tabM) (X : HbBuf (F := F) c poolM)

set_option maxHeartbeats 4000000 in
theorem run_B (hT : InRange (words T)) (hA : ¬condA (grid0.coords t)) (hB : condB (grid0.coords t))
    (W : Waits sig Unit) (K : PUnit → sProp 𝕄) :
    iprop(owns (c : Thread nD τ) arg2 fullShare x0 ∗ (∃ d, owns (c : Thread nD τ) arg4 fullShare d) ∗ (∃ d, owns (c : Thread nD τ) arg5 fullShare d)
        ∗ tbPt c tabM T
        ∗ Ring.inflight (flightW c (words T) X) (Ring.sl 2 t.val) (Ring.bk 64 t.val) ∗ Ring.kept (cellP c) (slotW c X) (landed c (words T) X) (Ring.sl 2 (t.val + 1)) (Ring.bk 64 (t.val - 1)) ∗ owes (c : Thread nD τ) 0 W
        ∗ (iprop(owns (c : Thread nD τ) arg2 fullShare x0
            ∗ owns (c : Thread nD τ) arg4 fullShare (outI x0 (blk (words T) X (Ring.bk 64 t.val))) ∗ owns (c : Thread nD τ) arg5 fullShare (outM (blk (words T) X (Ring.bk 64 t.val)))
            ∗ tbPt c tabM T
            ∗ Ring.inflight (flightW c (words T) X) (Ring.sl 2 (t.val + 1)) (Ring.bk 64 (t.val + 1)) ∗ Ring.kept (cellP c) (slotW c X) (landed c (words T) X) (Ring.sl 2 t.val) (Ring.bk 64 t.val) ∗ (∃ W', owes (c : Thread nD τ) 0 W')) -∗ K ⟨⟩))
      ⊢ wp frame (wpE (defs₀ (F := F)) Variants.none c none) Set.univ
          (cc0_mask_stats (grid0.coords t) tabM (Memref.isWhole_whole _) arg2 harg2 poolM (Memref.isWhole_whole _) arg4 harg4 arg5 harg5 scrM (Memref.isWhole_whole _) cc0_scratch1) K := by
  haveI : Fact (¬condA (grid0.coords t)) := ⟨hA⟩
  haveI : Fact (condB (grid0.coords t)) := ⟨hB⟩
  have e2 := word_at T (k0_off2 (grid0.coords t)) (k0_off2_inb (grid0.coords t) hB) (Ring.bk 64 (t.val + 1)) (off2_eq t hB) (Shape.Idx.first (numel1_S1.symm ▸ Nat.one_pos))
  have e6 := word_at T (k0_off6 (grid0.coords t)) (k0_off6_inb (grid0.coords t)) (Ring.bk 64 t.val) (off6_eq t) (Shape.Idx.first (numel1_S1.symm ▸ Nat.one_pos))
  have c2 := chk2 t _ (e2 ▸ hT _)
  have c6 := chk3 t _ (e6 ▸ hT _)
  have h2 := (congrArg BitVec.toNat e2).trans (cls_eq hT _)
  have h6 := (congrArg BitVec.toNat e6).trans (cls_eq hT _)
  clear e2 e6
  simp only [cc0_mask_stats_eq_skeleton]; unfold cc0_mask_stats_skel
  simp only [k0_part2_eq_skeleton, k0_part1_eq_skeleton, k0_part3_eq_skeleton, k0_part4_eq_skeleton, k0_part5_eq_skeleton, k0_part6_eq_skeleton]
  unfold owns Ring.inflight Ring.kept
  iintro ⟨⟨%f0, %hf0, H0⟩, ⟨%d1, %f1, -, H1⟩, ⟨%d2, %f2, -, H2⟩, HT, ⟨%ff, Hf, Hrf⟩, ⟨Hc, ⟨%fs, Hs, Hw⟩⟩, HW, Hk⟩
  ihave Hsp := (src_split c (words T) X (Ring.sl 2 (t.val + 1)) (Ring.bk 64 (t.val + 1))).1 $$ Hw
  icases Hsp with ⟨Hh, Hr⟩
  obtain rfl := harg2.eq_unread hf0
  sl_exec (disch := first | sl_exact hA | sl_exact hB | sl_exact c2 | sl_exact c6)
  simp only [canon_5 (words T) t hB (run_B.sl.r c t T hB) h2]
  sl_exec (disch := first | sl_exact hA | sl_exact hB | sl_exact c2 | sl_exact c6)
  simp only [canon_9 (words T) t _ h6]
  sl_exec (disch := first | sl_exact hA | sl_exact hB | sl_exact c2 | sl_exact c6)
  sl_step
  iapply Hk
  isplitl [H0]
  · iexists _; isplitr; · ipureintro; exact harg2.read_unread _
    iexact H0
  isplitl [H1]
  · iexists _; isplitr; swap; · iexact H1
    ipureintro
    refine (View.read_writes_full arg4.view f1 _ _ []).trans ?_
    exact congrArg₂ outI ((View.readAt_full arg2.view _ _).trans (harg2.read_unread x0)) (load_landed (c := c) _ _ _ (coff_10 t) _ _)
  isplitl [H2]
  · iexists _; isplitr; swap; · iexact H2
    ipureintro
    refine (View.read_writes_full arg5.view f2 _ _ []).trans ?_
    exact congrArg outM (load_landed (c := c) _ _ _ (coff_10 t) _ _)
  isplitl [HT]; · iexact HT
  isplitl [Hc Hr]
  · iexists _; isplitl [Hc]; · iexact Hc
    iexact Hr
  isplitl [Hf Hf_dst Hf_src Hrf]
  · isplitl [Hf]; · iexact Hf
    iexists _; isplitl [Hf_dst]; · iexact Hf_dst
    iapply (src_split c (words T) X (Ring.sl 2 t.val) (Ring.bk 64 t.val)).2; isplitl [Hf_src]; · iexact Hf_src
    iexact Hrf
  iexists _; iexact HW
set_option maxHeartbeats 4000000 in
theorem run_C (hT : InRange (words T)) (hA : ¬condA (grid0.coords t)) (hB : ¬condB (grid0.coords t))
    (W : Waits sig Unit) (K : PUnit → sProp 𝕄) :
    iprop(owns (c : Thread nD τ) arg2 fullShare x0 ∗ (∃ d, owns (c : Thread nD τ) arg4 fullShare d) ∗ (∃ d, owns (c : Thread nD τ) arg5 fullShare d)
        ∗ tbPt c tabM T
        ∗ Ring.inflight (flightW c (words T) X) (Ring.sl 2 t.val) (Ring.bk 64 t.val) ∗ owes (c : Thread nD τ) 0 W
        ∗ (iprop(owns (c : Thread nD τ) arg2 fullShare x0
            ∗ owns (c : Thread nD τ) arg4 fullShare (outI x0 (blk (words T) X (Ring.bk 64 t.val))) ∗ owns (c : Thread nD τ) arg5 fullShare (outM (blk (words T) X (Ring.bk 64 t.val)))
            ∗ tbPt c tabM T
            ∗ Ring.kept (cellP c) (slotW c X) (landed c (words T) X) (Ring.sl 2 t.val) (Ring.bk 64 t.val) ∗ (∃ W', owes (c : Thread nD τ) 0 W')) -∗ K ⟨⟩))
      ⊢ wp frame (wpE (defs₀ (F := F)) Variants.none c none) Set.univ
          (cc0_mask_stats (grid0.coords t) tabM (Memref.isWhole_whole _) arg2 harg2 poolM (Memref.isWhole_whole _) arg4 harg4 arg5 harg5 scrM (Memref.isWhole_whole _) cc0_scratch1) K := by
  haveI : Fact (¬condA (grid0.coords t)) := ⟨hA⟩
  haveI : Fact (¬condB (grid0.coords t)) := ⟨hB⟩
  have e6 := word_at T (k0_off6 (grid0.coords t)) (k0_off6_inb (grid0.coords t)) (Ring.bk 64 t.val) (off6_eq t) (Shape.Idx.first (numel1_S1.symm ▸ Nat.one_pos))
  have c6 := chk3 t _ (e6 ▸ hT _)
  have h6 := (congrArg BitVec.toNat e6).trans (cls_eq hT _)
  clear e6
  simp only [cc0_mask_stats_eq_skeleton]; unfold cc0_mask_stats_skel
  simp only [k0_part2_eq_skeleton, k0_part3_eq_skeleton, k0_part4_eq_skeleton, k0_part5_eq_skeleton, k0_part6_eq_skeleton]
  unfold owns Ring.inflight Ring.kept
  iintro ⟨⟨%f0, %hf0, H0⟩, ⟨%d1, %f1, -, H1⟩, ⟨%d2, %f2, -, H2⟩, HT, ⟨%ff, Hf, Hrf⟩, HW, Hk⟩
  obtain rfl := harg2.eq_unread hf0
  sl_exec (disch := first | sl_exact hA | sl_exact hB | sl_exact c6)
  sl_exec (disch := first | sl_exact hA | sl_exact hB | sl_exact c6)
  simp only [canon_9 (words T) t _ h6]
  sl_exec (disch := first | sl_exact hA | sl_exact hB | sl_exact c6)
  sl_step
  iapply Hk
  isplitl [H0]
  · iexists _; isplitr; · ipureintro; exact harg2.read_unread _
    iexact H0
  isplitl [H1]
  · iexists _; isplitr; swap; · iexact H1
    ipureintro
    refine (View.read_writes_full arg4.view f1 _ _ []).trans ?_
    exact congrArg₂ outI ((View.readAt_full arg2.view _ _).trans (harg2.read_unread x0)) (load_landed (c := c) _ _ _ (coff_10 t) _ _)
  isplitl [H2]
  · iexists _; isplitr; swap; · iexact H2
    ipureintro
    refine (View.read_writes_full arg5.view f2 _ _ []).trans ?_
    exact congrArg outM (load_landed (c := c) _ _ _ (coff_10 t) _ _)
  isplitl [HT]; · iexact HT
  isplitl [Hf Hf_dst Hf_src Hrf]
  · isplitl [Hf]; · iexact Hf
    iexists _; isplitl [Hf_dst]; · iexact Hf_dst
    iapply (src_split c (words T) X (Ring.sl 2 t.val) (Ring.bk 64 t.val)).2; isplitl [Hf_src]; · iexact Hf_src
    iexact Hrf
  iexists _; iexact HW
set_option maxHeartbeats 4000000 in
theorem run_A (hT : InRange (words T)) (hA : condA (grid0.coords t)) (hB : condB (grid0.coords t))
    (W : Waits sig Unit) (K : PUnit → sProp 𝕄) :
    iprop(owns (c : Thread nD τ) arg2 fullShare x0 ∗ (∃ d, owns (c : Thread nD τ) arg4 fullShare d) ∗ (∃ d, owns (c : Thread nD τ) arg5 fullShare d)
        ∗ tbPt c tabM T
        ∗ Ring.free (cellP c) (slotW c X) (Ring.sl 2 t.val) ∗ Ring.free (cellP c) (slotW c X) (Ring.sl 2 (t.val + 1)) ∗ owes (c : Thread nD τ) 0 W
        ∗ (iprop(owns (c : Thread nD τ) arg2 fullShare x0
            ∗ owns (c : Thread nD τ) arg4 fullShare (outI x0 (blk (words T) X (Ring.bk 64 t.val))) ∗ owns (c : Thread nD τ) arg5 fullShare (outM (blk (words T) X (Ring.bk 64 t.val)))
            ∗ tbPt c tabM T
            ∗ Ring.inflight (flightW c (words T) X) (Ring.sl 2 (t.val + 1)) (Ring.bk 64 (t.val + 1)) ∗ Ring.kept (cellP c) (slotW c X) (landed c (words T) X) (Ring.sl 2 t.val) (Ring.bk 64 t.val) ∗ (∃ W', owes (c : Thread nD τ) 0 W')) -∗ K ⟨⟩))
      ⊢ wp frame (wpE (defs₀ (F := F)) Variants.none c none) Set.univ
          (cc0_mask_stats (grid0.coords t) tabM (Memref.isWhole_whole _) arg2 harg2 poolM (Memref.isWhole_whole _) arg4 harg4 arg5 harg5 scrM (Memref.isWhole_whole _) cc0_scratch1) K := by
  haveI : Fact (condA (grid0.coords t)) := ⟨hA⟩
  haveI : Fact (condB (grid0.coords t)) := ⟨hB⟩
  have e1 := word_at T ![0] inb_S64_S1_0 (Ring.bk 64 t.val) (by rw [bk_0 t hA]; rfl) (Shape.Idx.first (numel1_S1.symm ▸ Nat.one_pos))
  have c1 := chk1 (grid0.coords t) _ (e1 ▸ hT _)
  have h1 := (congrArg BitVec.toNat e1).trans (cls_eq hT _)
  have n1 := canon_slotA t hA
  have n2 := canon_cellA t hA
  have e2 := word_at T (k0_off2 (grid0.coords t)) (k0_off2_inb (grid0.coords t) hB) (Ring.bk 64 (t.val + 1)) (off2_eq t hB) (Shape.Idx.first (numel1_S1.symm ▸ Nat.one_pos))
  have e6 := word_at T (k0_off6 (grid0.coords t)) (k0_off6_inb (grid0.coords t)) (Ring.bk 64 t.val) (off6_eq t) (Shape.Idx.first (numel1_S1.symm ▸ Nat.one_pos))
  have c2 := chk2 t _ (e2 ▸ hT _)
  have c6 := chk3 t _ (e6 ▸ hT _)
  have h2 := (congrArg BitVec.toNat e2).trans (cls_eq hT _)
  have h6 := (congrArg BitVec.toNat e6).trans (cls_eq hT _)
  clear e1 e2 e6
  simp only [cc0_mask_stats_eq_skeleton]; unfold cc0_mask_stats_skel
  simp only [k0_part2_eq_skeleton, k0_part1_eq_skeleton, k0_part3_eq_skeleton, k0_part4_eq_skeleton, k0_part5_eq_skeleton, k0_part6_eq_skeleton]
  unfold owns Ring.free Ring.inflight Ring.kept
  iintro ⟨⟨%f0, %hf0, H0⟩, ⟨%d1, %f1, -, H1⟩, ⟨%d2, %f2, -, H2⟩, HT, ⟨Hd, ⟨%ft, Ht, Hv⟩⟩, ⟨Hc, ⟨%fs, Hs, Hw⟩⟩, HW, Hk⟩
  ihave Hsq := (src_split c (words T) X (Ring.sl 2 t.val) (Ring.bk 64 t.val)).1 $$ Hv
  icases Hsq with ⟨Hi, Hq⟩
  ihave Hsp := (src_split c (words T) X (Ring.sl 2 (t.val + 1)) (Ring.bk 64 (t.val + 1))).1 $$ Hw
  icases Hsp with ⟨Hh, Hr⟩
  obtain rfl := harg2.eq_unread hf0
  sl_exec (disch := first | sl_exact hA | sl_exact hB | sl_exact c1 | sl_exact c2 | sl_exact c6)
  simp only [canon_srcA (words T) t hA (run_A.sl.r c T) h1, n1, n2]

  sl_exec (disch := first | sl_exact hA | sl_exact hB | sl_exact c1 | sl_exact c2 | sl_exact c6)
  simp only [canon_5 (words T) t hB (run_A.sl.r_1 c t T hB) h2, canon_4 t hB, canon_3 t hB]
  sl_exec (disch := first | sl_exact hA | sl_exact hB | sl_exact c1 | sl_exact c2 | sl_exact c6)
  simp only [canon_9 (words T) t _ h6]
  sl_exec (disch := first | sl_exact hA | sl_exact hB | sl_exact c1 | sl_exact c2 | sl_exact c6)
  sl_step
  iapply Hk
  isplitl [H0]
  · iexists _; isplitr; · ipureintro; exact harg2.read_unread _
    iexact H0
  isplitl [H1]
  · iexists _; isplitr; swap; · iexact H1
    ipureintro
    refine (View.read_writes_full arg4.view f1 _ _ []).trans ?_
    exact congrArg₂ outI ((View.readAt_full arg2.view _ _).trans (harg2.read_unread x0)) (load_landed (c := c) _ _ _ (coff_10 t) _ _)
  isplitl [H2]
  · iexists _; isplitr; swap; · iexact H2
    ipureintro
    refine (View.read_writes_full arg5.view f2 _ _ []).trans ?_
    exact congrArg outM (load_landed (c := c) _ _ _ (coff_10 t) _ _)
  isplitl [HT]; · iexact HT
  isplitl [Hc Hr]
  · iexists _; isplitl [Hc]; · iexact Hc
    iexact Hr
  isplitl [Hd Ht Hi Hq]
  · isplitl [Hd]; · iexact Hd
    iexists _; isplitl [Ht]; · iexact Ht
    iapply (src_split c (words T) X (Ring.sl 2 t.val) (Ring.bk 64 t.val)).2; isplitl [Hi]; · iexact Hi
    iexact Hq
  iexists _; iexact HW
end Cases

end Cert.StatsIdeal.Own

end
-- ==== Proof.StatsIdealFrame.lean ====
/- The mask-statistics call launched: its proof data, its body at every point, and the frame. -/
module

public import proofs.«01_k».proof.Proof.StatsIdealRun
public import Idealize.ShloMosaic.Lib.Claim

@[expose] public section

set_option maxRecDepth 16384

noncomputable section

namespace Cert.StatsIdeal.Own

open Cert.StatsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data -/

/-- The table the launch memory holds, in words. -/
abbrev W0 : S64.Idx → BitVec 32 := words (c := (0 : Dev nD)) (tbl m 0)
/-- The plane of step `t`, off the transposed masks. -/
def blkAt (c : Dev nD) (t : Fin grid0.N) : Vec F S1x28x28x500 .f32 := blk (c := c) (W0 m) (V m c main_v0) (Ring.bk 64 t.val)

/-- Between points: the generator's register, the ring, and the body's half of the table. -/
def PhiR (c : Dev nD) (k : ℕ) : sProp 𝕄 :=
  iprop((∃ r, prngReg c r) ∗ ringAt c (W0 m) (V m c main_v0) k ∗ tbPt c tabM (tbl m 0))

def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => outI (iblk m c 0 t) (blkAt m c t)
    | ⟨2, _⟩ => outM (blkAt m c t)
  Φ t := PhiR m c t.val
  q _ := fullShare
  owed _ := 0

theorem A_eq (c : Dev nD) (w : Fin (cfgM m).W) : (dats m 0 c).A w = V m c (Pipeline.arrRef spec0 w) := by dsimp only [dats]
theorem after_0 (c : Dev nD) (t : Fin (cfgM m).N) : (dats m 0 c).after 0 t = iblk m c 0 t := by dsimp only [dats]; try rfl
theorem after_1 (c : Dev nD) (t : Fin (cfgM m).N) : (dats m 0 c).after 1 t = outI (iblk m c 0 t) (blkAt m c t) := by dsimp only [dats]; try rfl
theorem after_2 (c : Dev nD) (t : Fin (cfgM m).N) : (dats m 0 c).after 2 t = outM (blkAt m c t) := by dsimp only [dats]; try rfl
theorem before_0 (c : Dev nD) (t : Fin (cfgM m).N) (d) : (dats m 0 c).before 0 t d = iblk m c 0 t :=
  before_0_of m (dats m 0 c) (A_eq m c 0) (after_0 m c) t d
theorem Phi_castSucc (c : Dev nD) (t : Fin (cfgM m).N) : (dats m 0 c).Φ t.castSucc = PhiR m c t.val := by dsimp only [dats]; rfl
theorem Phi_succ (c : Dev nD) (t : Fin (cfgM m).N) : (dats m 0 c).Φ t.succ = PhiR m c (t.val + 1) := by dsimp only [dats]; rfl

/-! ## The body at every point -/

/-- The body as the pipeline calls it at point `t`. -/
abbrev bodyAt (t : Fin (cfgM m).N) : Prog (TpuEff nD τ sig (Elt F) Λ₀ .tc) PUnit :=
  cc0_mask_stats (grid0.coords t) tabM (Memref.isWhole_whole _) (ms_0 m t) (hs_0 m t) poolM (Memref.isWhole_whole _) (ms_1 m t) (hs_1 m t) (ms_2 m t) (hs_2 m t) scrM (Memref.isWhole_whole _) cc0_scratch1

def bodyPre (c : Dev nD) (t : Fin (cfgM m).N) : sProp 𝕄 :=
  iprop((dats m 0 c).Φ t.castSucc ∗ (dats m 0 c).owesAt () t.castSucc
    ∗ (∃ d, owns (c : Thread nD τ) (ms_0 m t) fullShare ((dats m 0 c).before 0 t d))
    ∗ (∃ d, owns (c : Thread nD τ) (ms_1 m t) fullShare ((dats m 0 c).before 1 t d))
    ∗ (∃ d, owns (c : Thread nD τ) (ms_2 m t) fullShare ((dats m 0 c).before 2 t d)))
def bodyPost (c : Dev nD) (t : Fin (cfgM m).N) : sProp 𝕄 :=
  iprop((dats m 0 c).Φ t.succ ∗ (dats m 0 c).owesAt () t.succ
    ∗ owns (c : Thread nD τ) (ms_0 m t) fullShare ((dats m 0 c).after 0 t)
    ∗ owns (c : Thread nD τ) (ms_1 m t) fullShare ((dats m 0 c).after 1 t)
    ∗ owns (c : Thread nD τ) (ms_2 m t) fullShare ((dats m 0 c).after 2 t))

set_option maxHeartbeats 2000000 in
theorem sound_body (hT : InRange (W0 m)) (c : Dev nD) (t : Fin (cfgM m).N) :
    bodyPre m c t ⊢ wp frame (wpE (defs₀ (F := F)) Variants.none c none) Set.univ (bodyAt m t) (fun _ => bodyPost m c t) := by
  obtain rfl : c = 0 := Subsingleton.elim _ _
  unfold bodyPre bodyPost bodyAt
  simp only [before_0]
  rw [after_0, after_1, after_2, Phi_castSucc m 0 t, Phi_succ m 0 t]
  unfold Dat.owesAt Pipeline.owesWithin
  rw [show (dats m 0 0).owed t.castSucc = 0 from rfl, show (dats m 0 0).owed t.succ = 0 from rfl]
  unfold PhiR ringAt
  have hN : t.val < 64 := lt_of_lt_of_eq t.isLt (show (cfgM m).N = 64 from N_0)
  by_cases h0 : t.val = 0
  · have hB : condB (grid0.coords t) := (hcondB t).mpr (by omega)
    rw [if_pos h0, if_neg (show ¬t.val + 1 = 0 by omega)]
    rw [Ring.At₀_eq2' _ _ _ t.val h0 (by decide : 2 ≤ 64), Ring.AtK2_one' _ _ _ _ _ t.val h0 (by decide : 1 < 64)]
    iintro ⟨⟨Hg, ⟨-, Hx, Hy⟩, HT⟩, ⟨%W, -, HW⟩, ⟨%d0, H0⟩, ⟨%d1, H1⟩, ⟨%d2, H2⟩⟩
    iapply (run_A (0 : Dev nD) t _ (hs_0 m t) _ (hs_1 m t) _ (hs_2 m t) (iblk m 0 0 t) (tbl m 0) (V m 0 main_v0) hT ((hcondA t).mpr h0) hB W _)
    isplitl [H0]; · iexact H0
    isplitl [H1]; · iexists _; iexact H1
    isplitl [H2]; · iexists _; iexact H2
    isplitl [HT]; · iexact HT
    isplitl [Hx]; · iexact Hx
    isplitl [Hy]; · iexact Hy
    isplitl [HW]; · iexact HW
    iintro ⟨H0, H1, H2, HT, Hx, Hy, ⟨%W', HW'⟩⟩
    isplitl [Hg Hx Hy HT]
    · isplitl [Hg]; · iexact Hg
      isplitr [HT]
      · iapply Ring.with_homes₀
        isplitl [Hx]; · iexact Hx
        iexact Hy
      iexact HT
    isplitl [HW']
    · iexists W'; isplitr; · ipureintro; exact fun _ _ => Or.inl trivial
      iexact HW'
    isplitl [H0]; · iexact H0
    isplitl [H1]; · iexact H1
    iexact H2
  · have hA : ¬condA (grid0.coords t) := fun h => h0 ((hcondA t).mp h)
    by_cases h1 : t.val < 63
    · rw [if_neg h0, if_neg (show ¬t.val + 1 = 0 by omega)]
      rw [Ring.AtK2_here _ _ _ _ _ t.val (by omega) (by omega), Ring.AtK2_next _ _ _ _ _ t.val (by omega) (by omega)]
      iintro ⟨⟨Hg, ⟨-, Hx, Hy⟩, HT⟩, ⟨%W, -, HW⟩, ⟨%d0, H0⟩, ⟨%d1, H1⟩, ⟨%d2, H2⟩⟩
      iapply (run_B (0 : Dev nD) t _ (hs_0 m t) _ (hs_1 m t) _ (hs_2 m t) (iblk m 0 0 t) (tbl m 0) (V m 0 main_v0) hT hA ((hcondB t).mpr h1) W _)
      isplitl [H0]; · iexact H0
      isplitl [H1]; · iexists _; iexact H1
      isplitl [H2]; · iexists _; iexact H2
      isplitl [HT]; · iexact HT
      isplitl [Hx]; · iexact Hx
      isplitl [Hy]; · iexact Hy
      isplitl [HW]; · iexact HW
      iintro ⟨H0, H1, H2, HT, Hx, Hy, ⟨%W', HW'⟩⟩
      isplitl [Hg Hx Hy HT]
      · isplitl [Hg]; · iexact Hg
        isplitr [HT]
        · iapply (Ring.with_homes (Idealize.SL.BI.Entails.refl _))
          isplitl [Hx]; · iexact Hx
          iexact Hy
        iexact HT
      isplitl [HW']
      · iexists W'; isplitr; · ipureintro; exact fun _ _ => Or.inl trivial
        iexact HW'
      isplitl [H0]; · iexact H0
      isplitl [H1]; · iexact H1
      iexact H2
    · rw [if_neg h0, if_neg (show ¬t.val + 1 = 0 by omega)]
      rw [Ring.AtK2_here_last _ _ _ _ _ t.val (by omega) (by omega), Ring.AtK2_next_last _ _ _ _ _ t.val (by omega) (by omega)]
      iintro ⟨⟨Hg, ⟨-, Hx, Hy⟩, HT⟩, ⟨%W, -, HW⟩, ⟨%d0, H0⟩, ⟨%d1, H1⟩, ⟨%d2, H2⟩⟩
      iapply (run_C (0 : Dev nD) t _ (hs_0 m t) _ (hs_1 m t) _ (hs_2 m t) (iblk m 0 0 t) (tbl m 0) (V m 0 main_v0) hT hA (fun h => h1 ((hcondB t).mp h)) W _)
      isplitl [H0]; · iexact H0
      isplitl [H1]; · iexists _; iexact H1
      isplitl [H2]; · iexists _; iexact H2
      isplitl [HT]; · iexact HT
      isplitl [Hx]; · iexact Hx
      isplitl [HW]; · iexact HW
      iintro ⟨H0, H1, H2, HT, Hx, ⟨%W', HW'⟩⟩
      isplitl [Hg Hx Hy HT]
      · isplitl [Hg]; · iexact Hg
        isplitr [HT]
        · iapply (Ring.with_homes (Idealize.SL.BI.Entails.refl _))
          isplitl [Hy]; · iexact Hy
          iexact Hx
        iexact HT
      isplitl [HW']
      · iexists W'; isplitr; · ipureintro; exact fun _ _ => Or.inl trivial
        iexact HW'
      isplitl [H0]; · iexact H0
      isplitl [H1]; · iexact H1
      iexact H2

theorem row_eq (t : Fin (cfgM m).N) : defs₀ (F := F) .tc (cfgM m).body ((cfgM m).bodyArgs t ((cfgM m).slots t)) = bodyAt m t := by
  unfold defs₀; rw [Defs.onTc_tc]
theorem body_obligation (hT : InRange (W0 m)) (c : Dev nD) : BodyObligation (dats (F := F) m 0 c) (defs₀ (F := F)) Variants.none () Set.univ := fun t => by
  rw [bigSep_W0, bigSep_W0, row_eq m]
  exact triple_restated (sound_body m hT c t) rfl .rfl fun _ => .rfl

theorem hin (c : Dev nD) : iprop(Pipeline.ΦD osem spec0 Hs (V m) c ∗ Pipeline.ΦT pre0 (tbl m) c) ⊢ (dats m 0 c).Φ 0 := by
  rw [PhiD_eq, PhiT_eq, show (dats m 0 c).Φ 0 = PhiR m c 0 from rfl]
  unfold PhiR
  iintro ⟨⟨HS, Hg, ⟨Hp, Hq⟩, Hh⟩, HT⟩
  isplitl [Hg]; · iexact Hg
  isplitr [HT]
  · iapply (ring_in (F := F) c (W0 m) (V m c main_v0))
    isplitl [HS]; · iexact HS
    isplitl [Hp Hq]
    · isplitl [Hp]; · iexact Hp
      iexact Hq
    iexact Hh
  iexact HT
theorem hout (c : Dev nD) : (dats m 0 c).Φ (Fin.last (cfgM m).N) ⊢ Pipeline.ΦD osem spec0 Hs (V m) c := by
  rw [PhiD_eq, show (dats m 0 c).Φ (Fin.last (cfgM m).N) = PhiR m c grid0.N from rfl]
  unfold PhiR
  rw [show grid0.N = 64 by rw [N_0]]
  iintro ⟨Hg, HR, -⟩
  ihave HX := (ring_out (F := F) c (W0 m) (V m c main_v0)) $$ HR
  icases HX with ⟨HS, ⟨Hp, Hq⟩, Hh⟩
  isplitl [HS]; · iexact HS
  isplitl [Hg]; · iexact Hg
  isplitl [Hp Hq]
  · isplitl [Hp]; · iexact Hp
    iexact Hq
  iexact Hh

/-! ## The run and the frame -/

set_option backward.isDefEq.respectTransparency.types false in
theorem run_main (hT : InRange (W0 m)) : θ_run defs (onTc (τ := τ) (main (F := F))) (s₀ m ρ)
    (fun r => (Pipeline.FramePost (Pipeline.pin pcfgs fun _ => adm m) (dats m) 0 (V m)) r ∧ r.2.sem = fun _ => 0) :=
  Pipeline.θ_run_frameP_dma (Q' := _) pcfgs (fun _ => adm m) (dats m) (0 : Fin 1) launch0 osem defs₀ Variants.none ownSemFacts Hs Hs_sub m ρ main
    (hbody := fun c => (body_obligation m hT c).loose) (hshare := fun c => (dats m 0 c).share_full fun _ => rfl)
    (howed := fun _ _ => rfl) (V := V m) (hmain := hmain m Variants.none) (hA := A_eq m) (hpf := V_pre m) (hin := hin m) (hout := hout m)

theorem frame (hT : InRange (W0 m)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨(h.1 c).2 main_arg0 (by decide : main_arg0 ∈ Pipeline.restRefs sig spec0) |>.trans (V_main_arg0 m c),
       ((h.1 c).1 0).trans (((dats m 0 c).arrAt_in 0 rfl _).trans (V_main_arg1 m c)),
       (h.1 c).2 main_arg2 (by decide : main_arg2 ∈ Pipeline.restRefs sig spec0) |>.trans (V_main_arg2 m c)⟩, h.2⟩) (run_main m ρ hT)

end Cert.StatsIdeal.Own

end
-- ==== Proof.Classes.lean ====
module

public import proofs.«01_k».proof.Defs
public import proofs.«01_k».proof.Proof.StatsFrame
public import proofs.«01_k».proof.Proof.StatsIdealFrame
public import proofs.«01_k».proof.Proof.Gen.Pre_classes_in_range
public import Idealize.ShloMosaic.Lib.StableHlo.Predicate
public import Idealize.ShloMosaic.Lib.WordCmp
public import Idealize.ShloMosaic.Lib.Pointwise

/-!
  The precondition read off: every word of the class argument lies in `[0, 80)`, so every word of the flattened table
  does.
-/

@[expose] public section

set_option maxRecDepth 16384

noncomputable section

namespace Cert.Classes

open Idealize.ShloMosaic Idealize.ShloMosaic.TcCoe

/-- A word between 0 and 80, signed, is a natural below 80. -/
theorem word_lt (w : BitVec 32) (h : IntOp.andi (IntOp.cmpi .sge w 0#32) (IntOp.cmpi .slt w 80#32) = 1#1) : w.toNat < 80 := by
  rw [WordCmp.cmpi_sge_zero] at h
  by_cases h1 : w.toNat < 2 ^ (32 - 1)
  · rw [WordCmp.cmpi_slt_of_lt h1 (by decide), decide_eq_true h1] at h
    by_contra h2
    rw [decide_eq_false (by simpa using h2)] at h
    exact absurd h (by decide)
  · rw [decide_eq_false h1] at h
    exact absurd h ((by decide : ∀ z : BitVec 1, ¬ IntOp.andi (BitVec.ofBool false) z = 1#1) _)

/-- The predicate at one word. -/
theorem pred_at {F : FTy → Type} [FloatOps F] (x : FVec F Cert.Pre_classes_in_range.S4x500x80x28x28 .f32) (y : FVec F Cert.Pre_classes_in_range.S64x28x28 .f32)
    (z : IVec Cert.Pre_classes_in_range.S4x16 32) (h : Cert.Pre_classes_in_range.fn x y z = fun _ => 1#1) (b : Fin 4) (g : Fin 16) :
    (z (ix2 b g)).toNat < 80 := by
  have e := congrFun h (ix2 b g)
  pointwise [Cert.Pre_classes_in_range.fn] at e
  exact word_lt _ e

theorem stats (m : (ℓ : Loc Cert.Stats.nD Cert.Stats.τ Cert.Stats.sig) → Buf (Elt Bits) ℓ) (h : Cert.Pre_Stats m) :
    Cert.Stats.Own.InRange (Cert.Stats.Own.W0 m) := by
  intro j
  have e : Cert.Stats.Own.W0 m j = (m (((0 : Dev Cert.Stats.nD) : Thread Cert.Stats.nD Cert.Stats.τ).loc Cert.Stats.main_arg2) : Cert.Stats.S4x16.Idx → BitVec 32)
      (ix2 (⟨(show Cert.Stats.S64.Idx from j) 0 / 16, by have := ((show Cert.Stats.S64.Idx from j) 0).isLt; change _ < 64 at this; omega⟩ : Fin 4) (⟨(show Cert.Stats.S64.Idx from j) 0 % 16, by omega⟩ : Fin 16)) := by
    show (Cert.Stats.Own.V m (0 : Dev Cert.Stats.nD) Cert.Stats.main_v1 : Cert.Stats.S64.Idx → BitVec 32) j = _
    entry_read
    pointwise []
  rw [e]
  exact pred_at _ _ _ (h 0) _ _

theorem statsIdeal (m : (ℓ : Loc Cert.StatsIdeal.nD Cert.StatsIdeal.τ Cert.StatsIdeal.sig) → Buf (Elt Ideal) ℓ) (h : Cert.Pre_StatsIdeal m) :
    Cert.StatsIdeal.Own.InRange (Cert.StatsIdeal.Own.W0 m) := by
  intro j
  have e : Cert.StatsIdeal.Own.W0 m j = (m (((0 : Dev Cert.StatsIdeal.nD) : Thread Cert.StatsIdeal.nD Cert.StatsIdeal.τ).loc Cert.StatsIdeal.main_arg2) : Cert.StatsIdeal.S4x16.Idx → BitVec 32)
      (ix2 (⟨(show Cert.StatsIdeal.S64.Idx from j) 0 / 16, by have := ((show Cert.StatsIdeal.S64.Idx from j) 0).isLt; change _ < 64 at this; omega⟩ : Fin 4) (⟨(show Cert.StatsIdeal.S64.Idx from j) 0 % 16, by omega⟩ : Fin 16)) := by
    show (Cert.StatsIdeal.Own.V m (0 : Dev Cert.StatsIdeal.nD) Cert.StatsIdeal.main_v1 : Cert.StatsIdeal.S64.Idx → BitVec 32) j = _
    entry_read
    pointwise []
  rw [e]
  exact pred_at _ _ _ (h 0) _ _

end Cert.Classes
-- ==== Proof.StatsPlane.lean ====
module

public import proofs.«01_k».proof.Proof.StatsIdealFrame
public import Idealize.ShloMosaic.Lib.Pointwise
public import Idealize.ShloMosaic.Lib.Pipeline.ValueKit

/-!
  The plane one step works on, read at one element: image `b`, prediction `n`, the class the table's word names.
-/

@[expose] public section

set_option maxRecDepth 16384

noncomputable section

namespace Cert.StatsIdeal.Own

open Cert.StatsIdeal.Gen
open Idealize.ShloMosaic Idealize.ShloMosaic.TcCoe

variable (m : (ℓ : Loc nD τ sig) → Buf (Elt Ideal) ℓ)

/-- A leading unit axis dropped. -/
theorem drop_unit (t r : Fin 28) (n : Fin 500) :
    Shape.reshapeEquiv squeezes_S1x28x28x500_S28x28x500.numel_eq (ix3 t r n : S28x28x500.Idx) = (ix4 0 t r n : S1x28x28x500.Idx) := by
  show shapeCast S28x28x500 (fun i : S1x28x28x500.Idx => i) squeezes_S1x28x28x500_S28x28x500.numel_eq (ix3 t r n) = _
  pointwise []
/-- Two unit axes dropped. -/
theorem drop_units (t r : Fin 28) (n : Fin 500) :
    Shape.reshapeEquiv squeezes_S1x28x28x1x500_S28x28x500.numel_eq (ix3 t r n : S28x28x500.Idx) = (ix5 0 t r 0 n : S1x28x28x1x500.Idx) := by
  show shapeCast S28x28x500 (fun i : S1x28x28x1x500.Idx => i) squeezes_S1x28x28x1x500_S28x28x500.numel_eq (ix3 t r n) = _
  pointwise []

/-- The transposed masks at the region's entry. -/
theorem V_v0 (c : Dev nD) (b : Fin 4) (t r : Fin 28) (k : Fin 80) (n : Fin 500) :
    (V m c main_v0 : S4x28x28x80x500.Idx → EReal) (ix5 b t r k n)
      = (m ((c : Thread nD τ).loc main_arg0) : S4x500x80x28x28.Idx → EReal) (ix5 b n k t r) := by
  entry_read
  pointwise []

/-- The flattened class table. -/
theorem W0_at (b : Fin 4) (g : Fin 16) :
    W0 m (ix1 ⟨b.val * 16 + g.val, by omega⟩) = (m (((0 : Dev nD) : Thread nD τ).loc main_arg2) : S4x16.Idx → BitVec 32) (ix2 b g) := by
  show (V m (0 : Dev nD) main_v1 : S64.Idx → BitVec 32) (ix1 ⟨b.val * 16 + g.val, by omega⟩) = _
  entry_read
  pointwise []

/-- The plane at one element. -/
theorem blk_at {c : Dev nD} (w : S64.Idx → BitVec 32) (X : HbBuf (F := Ideal) c poolM) (s : Fin 64) (k : Fin 80) (hk : cls w s = k.val) (t r : Fin 28) (n : Fin 500) :
    (blk w X s : S1x28x28x500.Idx → EReal) (ix4 0 t r n) = (X : S4x28x28x80x500.Idx → EReal) (ix5 ⟨s.val / 16, by omega⟩ t r k n) := by
  unfold blk
  rw [← drop_unit t r n, Equiv.symm_apply_apply]
  show (X : S4x28x28x80x500.Idx → EReal) ((Rect.unit (s := S4x28x28x80x500) ![s.val / 16, 0, 0, cls w s, 0] S1x28x28x1x500.size (inb_src w s)).emb
    (Shape.reshapeEquiv squeezes_S1x28x28x1x500_S28x28x500.numel_eq (ix3 t r n : S28x28x500.Idx))) = _
  rw [drop_units]
  refine congrArg _ (funext fun a => Fin.ext ?_)
  match a with
  | ⟨0, _⟩ => show s.val / 16 + 1 * 0 = s.val / 16; omega
  | ⟨1, _⟩ => show 0 + 1 * t.val = t.val; omega
  | ⟨2, _⟩ => show 0 + 1 * r.val = r.val; omega
  | ⟨3, _⟩ => show cls w s + 1 * 0 = k.val; omega
  | ⟨4, _⟩ => show 0 + 1 * n.val = n.val; omega

end Cert.StatsIdeal.Own
-- ==== Proof.Logistic.lean ====
module

public import Idealize.ShloMosaic.Lib.Pointwise

/-!
  The sigmoid, written twice: the half-angle form `½ · tanh (½ · x) + ½` and the quotient `1 / (1 + e^(-x))` are one
  function on all extended reals, the infinities included.
-/

@[expose] public section

noncomputable section

open Idealize.ShloMosaic

namespace Cert.Logistic

/-- On the reals: `½ · tanh (½ · x) + ½ = 1 / (1 + e^(-x))`. -/
theorem real_half_tanh (x : ℝ) : (1 / 2) * Real.tanh ((1 / 2) * x) + 1 / 2 = 1 / (1 + Real.exp (-x)) := by
  have h2 : Real.exp (-x) = Real.exp (-((1 / 2) * x)) * Real.exp (-((1 / 2) * x)) := by
    rw [← Real.exp_add]; congr 1; ring
  have h1 : Real.exp ((1 / 2) * x) * Real.exp (-((1 / 2) * x)) = 1 := by
    rw [← Real.exp_add]; simp
  have p1 := Real.exp_pos ((1 / 2) * x)
  have p2 := Real.exp_pos (-((1 / 2) * x))
  rw [Real.tanh_eq_sinh_div_cosh, Real.sinh_eq, Real.cosh_eq, h2]
  generalize Real.exp ((1 / 2) * x) = a at *
  generalize Real.exp (-((1 / 2) * x)) = b at *
  field_simp
  linear_combination (2 * b) * h1

/-- The pattern `0x3F000000` is the number one half. -/
theorem half : Ideal.ofBits .f32 0x3F000000#32 = ((1 / 2 : ℝ) : EReal) := by
  simp [Ideal.ofBits, Ideal.ieee, -EReal.coe_mul]; norm_num

/-- On the extended reals, in the form the two programs leave. -/
theorem half_tanh (x : EReal) :
    Ideal.ofBits .f32 0x3F000000#32 * Ideal.tanh (Ideal.ofBits .f32 0x3F000000#32 * x) + Ideal.ofBits .f32 0x3F000000#32
      = Ideal.div 1 (1 + Ideal.exp (-x)) := by
  rw [half]
  show _ = Ideal.logistic x
  induction x with
  | bot =>
    rw [EReal.coe_mul_bot_of_pos (by norm_num), Ideal.logistic_bot]
    show ((1 / 2 : ℝ) : EReal) * (-1 : EReal) + ((1 / 2 : ℝ) : EReal) = 0
    rw [show (-1 : EReal) = ((-1 : ℝ) : EReal) from (EReal.coe_neg 1).symm ▸ rfl, ← EReal.coe_mul, ← EReal.coe_add]
    norm_num
  | top =>
    rw [EReal.coe_mul_top_of_pos (by norm_num), Ideal.logistic_top]
    show ((1 / 2 : ℝ) : EReal) * (1 : EReal) + ((1 / 2 : ℝ) : EReal) = 1
    rw [mul_one, ← EReal.coe_add]
    norm_num
  | coe r =>
    rw [← EReal.coe_mul, Ideal.logistic_coe]
    show ((1 / 2 : ℝ) : EReal) * ((Real.tanh (1 / 2 * r) : ℝ) : EReal) + ((1 / 2 : ℝ) : EReal) = _
    rw [← EReal.coe_mul, ← EReal.coe_add, real_half_tanh, one_div]

end Cert.Logistic
-- ==== Proof.StatsSums.lean ====
module

public import proofs.«01_k».proof.Proof.StatsIdealRun
public import proofs.«01_k».proof.Proof.Logistic

/-!
  What one step of the kernel leaves, read at prediction `n`: the sum over the plane of the sigmoid times the box's
  mask, and the sum over the plane of the sigmoid alone.
-/

@[expose] public section

set_option maxRecDepth 16384

noncomputable section

namespace Cert.StatsIdeal.Own

open Cert.StatsIdeal.Gen
open Idealize.ShloMosaic Idealize.ShloMosaic.TcCoe

/-- The sigmoid of one element of a plane. -/
theorem sigm_at (p : FVec Ideal S1x28x28x500 .f32) (t r : Fin 28) (n : Fin 500) :
    (sigm (F := Ideal) p : FVec Ideal S28x28x500 .f32) (ix3 t r n) = Ideal.div 1 (1 + Ideal.exp (-(p (ix4 0 t r n)))) := by
  rw [← Cert.Logistic.half_tanh]
  pointwise [sigm, k0_pay6, k0_pay4, k0_pay5]

/-- The step's second output: the mass. -/
theorem outM_at (p : FVec Ideal S1x28x28x500 .f32) (n : Fin 500) :
    (outM (F := Ideal) p : FVec Ideal S1x1x1x500 .f32) (ix4 0 0 0 n)
      = ∑ r : Fin 28, ∑ t : Fin 28, (sigm (F := Ideal) p : FVec Ideal S28x28x500 .f32) (ix3 t r n) := by
  pointwise [outM, k0_pay2]

/-- The step's first output: the product. -/
theorem outI_at (x0 : FVec Ideal S1x28x28 .f32) (p : FVec Ideal S1x28x28x500 .f32) (n : Fin 500) :
    (outI (F := Ideal) x0 p : FVec Ideal S1x1x1x500 .f32) (ix4 0 0 0 n)
      = ∑ r : Fin 28, ∑ t : Fin 28, (sigm (F := Ideal) p : FVec Ideal S28x28x500 .f32) (ix3 t r n) * x0 (ix3 0 r t) := by
  unfold outI
  have e : k0_pay6 (k0_pay4 (F := Ideal) p) k0_pay5 = sigm (F := Ideal) p := rfl
  pointwise [k0_pay1, k0_pay9, k0_pay8, k0_pay7, k0_pay3, e]
  refine Finset.sum_congr rfl fun r _ => ?_
  simp only [Fin.sum_univ_castSucc, Fin.sum_univ_zero, zero_add]
  rfl

end Cert.StatsIdeal.Own
-- ==== Proof.Gathers.lean ====
module

public import proofs.«01_k».proof.Proof.Gen.ReferenceIdeal
public import Idealize.ShloMosaic.Lib.Pointwise

/-!
  The two look-ups of the reference, read at one index: a box's row (or its class alone) names which entry of the
  scores it takes, and a word below the number of classes is taken as it stands.
-/

@[expose] public section

set_option maxRecDepth 16384

noncomputable section

namespace Cert.ReferenceIdeal.Own

open Cert.ReferenceIdeal.Gen
open Idealize.ShloMosaic Idealize.ShloMosaic.TcCoe

/-- The sums' look-up: entry `(b, n, g)` is the sum of prediction `n` at the class the word of box `g` names. -/
theorem gather_sum {α : Type} (x : S4x500x80.Idx → α) (w : IVec S4x16x1 32) (b : Fin 4) (n : Fin 500) (g : Fin 16) (k : Fin 80)
    (hk : (w (ix3 b g 0)).toInt.toNat = k.val) :
    Host.gather gather_S4x500x80_S4x16x1_S4x500x16_1_2_0_0_2_2_15001 x w (ix3 b n g) = x (ix3 b n k) := by
  unfold Host.gather
  congr 1
  funext a
  apply Fin.ext
  match a with
  | ⟨0, _⟩ =>
    have e : 0 + b.val + 0 = b.val := by omega
    exact e
  | ⟨1, _⟩ =>
    have e : 0 + 0 + n.val = n.val := by omega
    exact e
  | ⟨2, _⟩ =>
    have e : min k.val 79 + 0 + 0 = k.val := by have := k.isLt; omega
    refine Eq.trans ?_ e
    rw [← hk]
    refine congrArg (fun i => min (w i).toInt.toNat 79 + 0 + 0) (funext fun e => Fin.ext ?_)
    match e with
    | ⟨0, _⟩ => rfl
    | ⟨1, _⟩ => rfl
    | ⟨2, _⟩ => rfl

/-- The products' look-up: entry `(b, n, g)` is the product of prediction `n` and the box the first word names, at the
    class the second word names. -/
theorem gather_prod {α : Type} (x : S4x500x16x80.Idx → α) (w : IVec S4x16x2 32) (b : Fin 4) (n : Fin 500) (g : Fin 16) (p : Fin 16) (k : Fin 80)
    (hp : (w (ix3 b g 0)).toInt.toNat = p.val) (hk : (w (ix3 b g 1)).toInt.toNat = k.val) :
    Host.gather gather_S4x500x16x80_S4x16x2_S4x500x16_1_23_0_0_23_2_150011 x w (ix3 b n g) = x (ix4 b n p k) := by
  unfold Host.gather
  congr 1
  funext a
  apply Fin.ext
  match a with
  | ⟨0, _⟩ =>
    have e : 0 + b.val + 0 = b.val := by omega
    exact e
  | ⟨1, _⟩ =>
    have e : 0 + 0 + n.val = n.val := by omega
    exact e
  | ⟨2, _⟩ =>
    have e : min p.val 15 + 0 + 0 = p.val := by have := p.isLt; omega
    refine Eq.trans ?_ e
    rw [← hp]
    refine congrArg (fun i => min (w i).toInt.toNat 15 + 0 + 0) (funext fun e => Fin.ext ?_)
    match e with
    | ⟨0, _⟩ => rfl
    | ⟨1, _⟩ => rfl
    | ⟨2, _⟩ => rfl
  | ⟨3, _⟩ =>
    have e : min k.val 79 + 0 + 0 = k.val := by have := k.isLt; omega
    refine Eq.trans ?_ e
    rw [← hk]
    refine congrArg (fun i => min (w i).toInt.toNat 79 + 0 + 0) (funext fun e => Fin.ext ?_)
    match e with
    | ⟨0, _⟩ => rfl
    | ⟨1, _⟩ => rfl
    | ⟨2, _⟩ => rfl

end Cert.ReferenceIdeal.Own
-- ==== Proof.RefStats.lean ====
module

public import proofs.«01_k».proof.Proof.Gathers
public import proofs.«01_k».proof.Proof.Logistic
public import Idealize.ShloMosaic.Lib.WordCmp

/-!
  The reference's two results as terms over its three arguments, and each read at one index: the dice numerator's
  product of box `g` of image `b` with prediction `n`, and the mass of prediction `n`, both at the class of box `g`.
-/

@[expose] public section

set_option maxRecDepth 16384

noncomputable section

namespace Cert.ReferenceIdeal.Own

open Cert.ReferenceIdeal.Gen
open Idealize.ShloMosaic Idealize.ShloMosaic.TcCoe

/-- The sigmoid of every mask, each plane flattened. -/
def scores (X : FVec Ideal S4x500x80x28x28 .f32) : FVec Ideal S4x500x80x784 .f32 :=
  shapeCast S4x500x80x784 (Host.divf (broadcastInDim S4x500x80x28x28 ![] bcast_S_S4x500x80x28x28 (constant S_ .f32 0x3F800000#32))
    (addf (broadcastInDim S4x500x80x28x28 ![] bcast_S_S4x500x80x28x28 (constant S_ .f32 0x3F800000#32)) (Host.exp (Host.negf X))))
    shapeCasts_S4x500x80x28x28_S4x500x80x784

/-- The class words, a negative one counted from the end. -/
def wordsOf (C : IVec S4x16 32) : IVec S4x16 32 :=
  select (cmpi .slt C (broadcastInDim S4x16 ![] bcast_S_S4x16 (constantI S_ 32 0#32)))
    (addi C (broadcastInDim S4x16 ![] bcast_S_S4x16 (constantI S_ 32 80#32))) C

/-- The box words: box `g` of each image is row `g`. -/
def boxes : IVec S16 32 :=
  select (cmpi .slt (iotaInDim S16 32 0) (broadcastInDim S16 ![] bcast_S_S16 (constantI S_ 32 0#32)))
    (addi (iotaInDim S16 32 0) (broadcastInDim S16 ![] bcast_S_S16 (constantI S_ 32 16#32))) (iotaInDim S16 32 0)

/-- The box and class words side by side. -/
def pairs (C : IVec S4x16 32) : IVec S4x16x2 32 :=
  concatenate S4x16x2 2 [⟨S4x16x1, broadcastInDim S4x16x1 ![1, 2] bcast_S16x1_S4x16x1_1_2 (broadcastInDim S16x1 ![0] bcast_S16_S16x1_0 boxes)⟩,
    ⟨S4x16x1, broadcastInDim S4x16x1 ![0, 1] bcast_S4x16_S4x16x1_0_1 (wordsOf C)⟩] concatenates_S4x16x1_S4x16x1_S4x16x2_d2

/-- Every box against every prediction and class. -/
def prods (X : FVec Ideal S4x500x80x28x28 .f32) (G : FVec Ideal S64x28x28 .f32) : FVec Ideal S4x500x16x80 .f32 :=
  transpose S4x500x16x80 [0, 2, 1, 3]
    (Host.dotGeneral dot_S4x16x784_S4x500x80x784_S4x16x500x80_2_3_1_12_0_0 none
      (shapeCast S4x16x784 (transpose S64x28x28 [0, 2, 1] G transposes_S64x28x28_S64x28x28_0_2_1) shapeCasts_S64x28x28_S4x16x784 : FVec Ideal S4x16x784 .f32)
      (scores X)) transposes_S4x16x500x80_S4x500x16x80_0_2_1_3

/-- Every prediction's mass by class. -/
def mass (X : FVec Ideal S4x500x80x28x28 .f32) : FVec Ideal S4x500x80 .f32 :=
  Host.reduceAdd (scores X) (constant S_ .f32 0x00000000#32) reducesTo_S4x500x80x784_S4x500x80_d3 h_S_

/-- The first result. -/
def refInter (X : FVec Ideal S4x500x80x28x28 .f32) (G : FVec Ideal S64x28x28 .f32) (C : IVec S4x16 32) : FVec Ideal S4x16x1x500 .f32 :=
  shapeCast S4x16x1x500 (transpose S4x16x500 [0, 2, 1] (Host.gather gather_S4x500x16x80_S4x16x2_S4x500x16_1_23_0_0_23_2_150011 (prods X G) (pairs C))
    transposes_S4x500x16_S4x16x500_0_2_1) shapeCasts_S4x16x500_S4x16x1x500

/-- The second result. -/
def refMass (X : FVec Ideal S4x500x80x28x28 .f32) (C : IVec S4x16 32) : FVec Ideal S4x16x1x500 .f32 :=
  shapeCast S4x16x1x500 (transpose S4x16x500 [0, 2, 1] (Host.gather gather_S4x500x80_S4x16x1_S4x500x16_1_2_0_0_2_2_15001 (mass X)
    (broadcastInDim S4x16x1 ![0, 1] bcast_S4x16_S4x16x1_0_1 (wordsOf C)))
    transposes_S4x500x16_S4x16x500_0_2_1) shapeCasts_S4x16x500_S4x16x1x500

/-- A word that names a class is not counted from the end. -/
theorem wordsOf_at (C : IVec S4x16 32) (b : Fin 4) (g : Fin 16) (h : (C (ix2 b g)).toNat < 80) : wordsOf C (ix2 b g) = C (ix2 b g) := by
  pointwise [wordsOf]
  have h0 : IntOp.cmpi CmpIPredicate.slt (C (ix2 b g)) 0#32 = 0#1 := by
    revert h; generalize C (ix2 b g) = w; intro h
    rw [WordCmp.cmpi_slt_zero, decide_eq_false (by omega)]; rfl
  rw [h0]; rfl

theorem boxes_at (g : Fin 16) : boxes (ix1 g) = BitVec.ofNat 32 g.val := by
  revert g
  decide +kernel

/-- A box number is a small word. -/
theorem box_word (g : Fin 16) : (BitVec.ofNat 32 g.val).toInt.toNat = g.val := by
  revert g; decide +kernel

theorem pairs_0 (C : IVec S4x16 32) (b : Fin 4) (g : Fin 16) : pairs C (ix3 b g 0) = boxes (ix1 g) := by
  pointwise [pairs]
theorem pairs_1 (C : IVec S4x16 32) (b : Fin 4) (g : Fin 16) : pairs C (ix3 b g 1) = wordsOf C (ix2 b g) := by
  pointwise [pairs]

theorem scores_at (X : FVec Ideal S4x500x80x28x28 .f32) (b : Fin 4) (n : Fin 500) (c : Fin 80) (k : Fin 784) :
    scores X (ix4 b n c k) = Ideal.div 1 (1 + Ideal.exp (-(X (ix5 b n c ⟨k.val / 28, by omega⟩ ⟨k.val % 28, by omega⟩)))) := by
  pointwise [scores]

theorem prods_at (X : FVec Ideal S4x500x80x28x28 .f32) (G : FVec Ideal S64x28x28 .f32) (b : Fin 4) (n : Fin 500) (g : Fin 16) (c : Fin 80) :
    prods X G (ix4 b n g c) = ∑ k : Fin 784, G (ix3 ⟨b.val * 16 + g.val, by omega⟩ ⟨k.val % 28, by omega⟩ ⟨k.val / 28, by omega⟩)
      * scores X (ix4 b n c k) := by
  pointwise [prods]

theorem mass_at (X : FVec Ideal S4x500x80x28x28 .f32) (b : Fin 4) (n : Fin 500) (c : Fin 80) :
    mass X (ix3 b n c) = ∑ k : Fin 784, scores X (ix4 b n c k) := by
  pointwise [mass]

/-- The first result at one index. -/
theorem refInter_at (X : FVec Ideal S4x500x80x28x28 .f32) (G : FVec Ideal S64x28x28 .f32) (C : IVec S4x16 32) (b : Fin 4) (g : Fin 16) (n : Fin 500) (k : Fin 80)
    (hk : (C (ix2 b g)).toNat = k.val) : refInter X G C (ix4 b g 0 n) = prods X G (ix4 b n g k) := by
  have hw : wordsOf C (ix2 b g) = C (ix2 b g) := wordsOf_at C b g (by omega)
  have : refInter X G C (ix4 b g 0 n) = Host.gather gather_S4x500x16x80_S4x16x2_S4x500x16_1_23_0_0_23_2_150011 (prods X G) (pairs C) (ix3 b n g) := by
    pointwise [refInter]
  rw [this]
  refine gather_prod _ _ b n g g k ?_ ?_
  · rw [pairs_0, boxes_at, box_word]
  · rw [pairs_1, hw, BitVec.toInt_eq_toNat_of_lt (by omega)]
    omega

/-- The second result at one index. -/
theorem refMass_at (X : FVec Ideal S4x500x80x28x28 .f32) (C : IVec S4x16 32) (b : Fin 4) (g : Fin 16) (n : Fin 500) (k : Fin 80)
    (hk : (C (ix2 b g)).toNat = k.val) : refMass X C (ix4 b g 0 n) = mass X (ix3 b n k) := by
  have hw : wordsOf C (ix2 b g) = C (ix2 b g) := wordsOf_at C b g (by omega)
  have : refMass X C (ix4 b g 0 n) = Host.gather gather_S4x500x80_S4x16x1_S4x500x16_1_2_0_0_2_2_15001 (mass X)
      (broadcastInDim S4x16x1 ![0, 1] bcast_S4x16_S4x16x1_0_1 (wordsOf C)) (ix3 b n g) := by
    pointwise [refMass]
  rw [this]
  refine gather_sum _ _ b n g k ?_
  have e : broadcastInDim S4x16x1 ![0, 1] bcast_S4x16_S4x16x1_0_1 (wordsOf C) (ix3 b g 0) = wordsOf C (ix2 b g) := by
    pointwise []
  rw [e, hw, BitVec.toInt_eq_toNat_of_lt (by omega)]
  omega

end Cert.ReferenceIdeal.Own
-- ==== Proof.StatsValue.lean ====
module

public import proofs.«01_k».proof.Proof.StatsPlane
public import proofs.«01_k».proof.Proof.StatsSums
public import proofs.«01_k».proof.Proof.RefStats

/-!
  The two result arrays of the mask-statistics call are the reference's two results: step `16 b + g` writes the row of
  box `g` of image `b`, and the plane's double sum is the reference's sum over the flattened plane.
-/

@[expose] public section

set_option maxRecDepth 16384

noncomputable section

namespace Cert.StatsIdeal.Own

open Cert.StatsIdeal.Gen
open Idealize.ShloMosaic Idealize.ShloMosaic.TcCoe
open Idealize.ShloMosaic.Pipeline (Dat Window)
open Cert.ReferenceIdeal.Own (refInter refMass refInter_at refMass_at prods mass prods_at mass_at scores scores_at)

variable (m : (ℓ : Loc nD τ sig) → Buf (Elt Ideal) ℓ)

/-- Where the windows sit: the block of step `t` is mask `t`, and row `(t / 16, t % 16)` of each result. -/
theorem idx : ∀ t : Fin (cfgM m).N, ((cfgM m).win 0).index t = ![t.val, 0, 0] ∧ ((cfgM m).win 1).index t = ![t.val / 16, t.val % 16, 0, 0]
    ∧ ((cfgM m).win 2).index t = ![t.val / 16, t.val % 16, 0, 0] := by
  exact (by decide +kernel : ∀ t : Fin grid0.N, cc0_transform_0 (grid0.coords t) = ![t.val, 0, 0] ∧ cc0_transform_2 (grid0.coords t) = ![t.val / 16, t.val % 16, 0, 0]
    ∧ cc0_transform_3 (grid0.coords t) = ![t.val / 16, t.val % 16, 0, 0])

/-- A closed table, to decide what no table changes. -/
def adm0 : (pcfg0 (F := Ideal)).Adm := ⟨fun | ⟨0, _⟩ => fun _ => 0#32 | ⟨_ + 1, h⟩ => absurd h (by simp), trivial⟩
theorem covers_1 : ((cfgM m).win 1).Covers := (by decide +kernel : ((cfg0 adm0).win 1).Covers)
theorem covers_2 : ((cfgM m).win 2).Covers := (by decide +kernel : ((cfg0 adm0).win 2).Covers)

/-- The arguments, at the launch. -/
abbrev X0 (c : Dev nD) : FVec Ideal S4x500x80x28x28 .f32 := m ((c : Thread nD τ).loc main_arg0)
abbrev G0 (c : Dev nD) : FVec Ideal S64x28x28 .f32 := m ((c : Thread nD τ).loc main_arg1)
abbrev C0 (c : Dev nD) : IVec S4x16 32 := m ((c : Thread nD τ).loc main_arg2)

/-- The class of box `g` of image `b`. -/
def kls (b : Fin 4) (g : Fin 16) : Fin 80 := ⟨cls (W0 m) ⟨b.val * 16 + g.val, by omega⟩, by unfold cls; omega⟩
theorem kls_eq (hT : InRange (W0 m)) (c : Dev nD) (b : Fin 4) (g : Fin 16) : (C0 m c (ix2 b g)).toNat = (kls m b g).val := by
  obtain rfl : c = 0 := Subsingleton.elim _ _
  exact (congrArg BitVec.toNat (W0_at m b g)).symm.trans (cls_eq hT _)

/-- A plane's flattened sum, row by row. -/
theorem sum_plane (f : Fin 784 → EReal) : ∑ k : Fin 784, f k = ∑ r : Fin 28, ∑ t : Fin 28, f ⟨t.val * 28 + r.val, by omega⟩ := by
  rw [Finset.sum_comm]
  exact Fin.sum_univ_tiles 28 28 rfl f

/-- The scores the step sums. -/
theorem sigm_score (c : Dev nD) (b : Fin 4) (g : Fin 16) (s : Fin grid0.N) (hs : s.val = b.val * 16 + g.val) (t r : Fin 28) (n : Fin 500) :
    (sigm (F := Ideal) (blkAt m c s) : FVec Ideal S28x28x500 .f32) (ix3 t r n) = scores (X0 m c) (ix4 b n (kls m b g) ⟨t.val * 28 + r.val, by omega⟩) := by
  obtain rfl : c = 0 := Subsingleton.elim _ _
  have hN : s.val < 64 := by omega
  have hb : Ring.bk 64 s.val = ⟨b.val * 16 + g.val, by omega⟩ := Fin.ext (by
    show s.val % 64 = b.val * 16 + g.val; omega)
  rw [sigm_at, scores_at]
  unfold blkAt
  rw [hb]
  refine congrArg (fun e => Ideal.div 1 (1 + Ideal.exp (-e))) ((blk_at (c := 0) (W0 m) (V m 0 main_v0) _ (kls m b g) rfl t r n).trans ((V_v0 m 0 _ t r _ n).trans ?_))
  refine congrArg (X0 m 0) ?_
  idx_ext

/-- The box's mask, off the input window. -/
theorem iblk_0 (c : Dev nD) (b : Fin 4) (g : Fin 16) (s : Fin (cfgM m).N) (hs : s.val = b.val * 16 + g.val) (t r : Fin 28) :
    (iblk m c 0 s : S1x28x28.Idx → EReal) (ix3 0 r t) = G0 m c (ix3 ⟨b.val * 16 + g.val, by omega⟩ r t) := by
  have e := (idx m s).1
  have hN : s.val < 64 := by omega
  refine Eq.trans (b := (V m c main_arg1 : S64x28x28.Idx → EReal) (ix3 ⟨b.val * 16 + g.val, by omega⟩ r t)) ?_ (congrFun (V_main_arg1 m c) _)
  blk_ext [iblk, e]

/-- What step `16 b + g` leaves first is row `(b, g)` of the reference's first result. -/
theorem step_1 (hT : InRange (W0 m)) (c : Dev nD) (b : Fin 4) (g : Fin 16) (s : Fin (cfgM m).N) (hs : s.val = b.val * 16 + g.val) (n : Fin 500) :
    (outI (iblk m c 0 s) (blkAt m c s) : S1x1x1x500.Idx → EReal) (ix4 0 0 0 n) = refInter (X0 m c) (G0 m c) (C0 m c) (ix4 b g 0 n) := by
  refine (outI_at _ _ n).trans (Eq.trans ?_ (refInter_at _ _ _ b g n _ (kls_eq m hT c b g)).symm)
  rw [prods_at, sum_plane]
  refine Finset.sum_congr rfl fun r _ => Finset.sum_congr rfl fun t _ => ?_
  refine (mul_comm _ _).trans (Ideal.mul_congr ((iblk_0 m c b g s hs t r).trans (congrArg (G0 m c) ?_)) (sigm_score m c b g s hs t r n))
  idx_ext

/-- And second, of its second. -/
theorem step_2 (hT : InRange (W0 m)) (c : Dev nD) (b : Fin 4) (g : Fin 16) (s : Fin (cfgM m).N) (hs : s.val = b.val * 16 + g.val) (n : Fin 500) :
    (outM (blkAt m c s) : S1x1x1x500.Idx → EReal) (ix4 0 0 0 n) = refMass (X0 m c) (C0 m c) (ix4 b g 0 n) := by
  refine (outM_at _ n).trans (Eq.trans ?_ (refMass_at _ _ b g n _ (kls_eq m hT c b g)).symm)
  rw [mass_at, sum_plane]
  exact Finset.sum_congr rfl fun r _ => Finset.sum_congr rfl fun t _ => sigm_score m c b g s hs t r n

theorem final_1 (hT : InRange (W0 m)) (c : Dev nD) : (dats m 0 c).arrAt 1 (cfgM m).N = refInter (X0 m c) (G0 m c) (C0 m c) := by
  refine (dats m 0 c).arrAt_eq_of_covers 1 _ (covers_1 m) fun t _ y => ?_
  blk_simp
  rw [after_1]
  have hN : t.val < 64 := t.isLt
  have e := (idx m t).2.1
  obtain ⟨n, hy⟩ : ∃ n : Fin 500, y = (ix4 0 0 0 n : S1x1x1x500.Idx) := ⟨(show S1x1x1x500.Idx from y) 3, by blk_ext []⟩
  subst hy
  have hz : (((cfgM m).win 1).blk t).view.emb (ix4 0 0 0 n : S1x1x1x500.Idx) = (ix4 (⟨t.val / 16, by omega⟩ : Fin 4) (⟨t.val % 16, by omega⟩ : Fin 16) 0 n : S4x16x1x500.Idx) := by
    blk_ext [e]
  rw [hz]
  exact step_1 m hT c _ _ t (by show t.val = t.val / 16 * 16 + t.val % 16; omega) n

theorem final_2 (hT : InRange (W0 m)) (c : Dev nD) : (dats m 0 c).arrAt 2 (cfgM m).N = refMass (X0 m c) (C0 m c) := by
  refine (dats m 0 c).arrAt_eq_of_covers 2 _ (covers_2 m) fun t _ y => ?_
  blk_simp
  rw [after_2]
  have hN : t.val < 64 := t.isLt
  have e := (idx m t).2.2
  obtain ⟨n, hy⟩ : ∃ n : Fin 500, y = (ix4 0 0 0 n : S1x1x1x500.Idx) := ⟨(show S1x1x1x500.Idx from y) 3, by blk_ext []⟩
  subst hy
  have hz : (((cfgM m).win 2).blk t).view.emb (ix4 0 0 0 n : S1x1x1x500.Idx) = (ix4 (⟨t.val / 16, by omega⟩ : Fin 4) (⟨t.val % 16, by omega⟩ : Fin 16) 0 n : S4x16x1x500.Idx) := by
    blk_ext [e]
  rw [hz]
  exact step_2 m hT c _ _ t (by show t.val = t.val / 16 * 16 + t.val % 16; omega) n

/-- The run's results: what the kernel writes, in the reference's terms, and the arguments as they were. -/
theorem results (ρ : Dev nD → PrngReg) (hT : InRange (W0 m)) : θ_run (defs (F := Ideal)) (onTc (τ := τ) (main (F := Ideal))) ⟨m, fun _ => 0, ρ⟩ (fun r => ∀ c : Dev nD,
    r.2.mem ((c.tc : Thread nD τ).loc main_v2_0) = refInter (X0 m c) (G0 m c) (C0 m c)
    ∧ r.2.mem ((c.tc : Thread nD τ).loc main_v2_1) = refMass (X0 m c) (C0 m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c => ⟨((h.1 c).1 1).trans (final_1 m hT c), ((h.1 c).1 2).trans (final_2 m hT c),
      (h.1 c).2 main_arg0 (by decide : main_arg0 ∈ Pipeline.restRefs sig spec0) |>.trans (V_main_arg0 m c),
      ((h.1 c).1 0).trans (((dats m 0 c).arrAt_in 0 rfl _).trans (V_main_arg1 m c)),
      (h.1 c).2 main_arg2 (by decide : main_arg2 ∈ Pipeline.restRefs sig spec0) |>.trans (V_main_arg2 m c)⟩) (run_main m ρ hT)

end Cert.StatsIdeal.Own
-- ==== Proof.CropIdealRing.lean ====
/- The crop call: the host operations before the region, the memrefs its body is handed, and the two-slot ring that
   streams windows of 512 rows of the masks from HBM through VMEM. Step `b` of the grid works on box `b`; its window
   starts at the row the box's top names, rounded down to a multiple of eight and kept inside the mask. -/
module

public import proofs.«01_k».proof.Proof.Gen.CropIdeal.Launch
public import proofs.«01_k».proof.Proof.Gen.CropIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueIdxCore

@[expose] public section

set_option maxRecDepth 16384

noncomputable section

namespace Cert.CropIdeal.Own

open Cert.CropIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## Up to the region -/

/-- What core `c`'s buffers hold when the region is entered: the masks and the boxes flattened. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
/-! ## The first row of a window -/

/-- The window's first row for the word a box's top names: one less, clamped to `0 … 288`, rounded down to a multiple of
    eight. -/
abbrev topW (v : BitVec 32) : BitVec 32 := k0_mult1 v
theorem clamp_le (x : BitVec 32) : (Scalar.minsi 288#32 (Scalar.maxsi 0#32 x)).toNat ≤ 288 := by
  have e : ∀ y : BitVec 32, 0 ≤ y.toInt → (Scalar.minsi 288#32 y).toNat ≤ 288 := by
    intro y hy
    simp only [Scalar.minsi, IntOp.minsi, BitVec.slt]
    split
    · decide
    · rename_i h
      simp only [decide_eq_true_eq, not_lt] at h
      have h' : y.toInt ≤ 288 := h
      have := (WordCmp.toInt_nonneg_iff_lt_half y).mp hy
      rw [WordCmp.toInt_eq_toNat_of_lt_half this] at h'
      omega
  apply e
  simp only [Scalar.maxsi, IntOp.maxsi, BitVec.slt]
  split
  · decide
  · rename_i h
    simp only [decide_eq_true_eq, not_lt] at h
    exact h
theorem eights : ∀ n : Fin 289, (Scalar.shli (Scalar.shrsi (BitVec.ofNat 32 n.val) 3#32) 3#32).toNat = n.val / 8 * 8 := by decide +kernel
theorem topW_eq (v : BitVec 32) :
    (topW v).toNat = (Scalar.minsi 288#32 (Scalar.maxsi 0#32 (Scalar.subi v 1#32))).toNat / 8 * 8 := by
  have h := eights ⟨(Scalar.minsi 288#32 (Scalar.maxsi 0#32 (Scalar.subi v 1#32))).toNat, Nat.lt_succ_of_le (clamp_le _)⟩
  rw [BitVec.ofNat_toNat, BitVec.setWidth_eq] at h
  exact h
theorem topW_le (v : BitVec 32) : (topW v).toNat ≤ 288 := by
  rw [topW_eq]; have := clamp_le (Scalar.subi v 1#32); omega
theorem topW_dvd (v : BitVec 32) : 8 ∣ (topW v).toNat := by
  rw [topW_eq]; exact Nat.dvd_mul_left _ _

/-- Coordinate `r` of box `b`. -/
def cor (x : S256.Idx → F .f32) (b : Fin 64) (r : Fin 4) : F .f32 := x (ValueIdx.ix1 (n := 256) ⟨b.val * 4 + r.val, by omega⟩)
/-- The word box `b`'s top names. -/
def topV (x : S256.Idx → F .f32) (b : Fin 64) : BitVec 32 := Scalar.fptosi 32 (Scalar.floor (cor x b 1))
/-- The first row of box `b`'s window. -/
def top (x : S256.Idx → F .f32) (b : Fin 64) : ℕ := (topW (topV x b)).toNat
theorem top_le (x : S256.Idx → F .f32) (b : Fin 64) : top x b ≤ 288 := topW_le _

/-! ## The windows -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

abbrev ms_0 (t : Fin cfg0.N) : Memref sig .tc .smem S256 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x28x28 .f32 := win0_1.stage (cfg0.slots t 1)
abbrev hs_1 (t : Fin cfg0.N) : (ms_1 t).IsWhole := hstage0_1 ((cfg0.slots t 1).cast nbuf0_1)

/-! ## The body's branches -/

abbrev condA (i : grid0.Coords) : Prop := k0_cond1 i = 1#1
/-- The first branch is taken at the first point only. -/
theorem hcondA : ∀ t : Fin grid0.N, condA (grid0.coords t) ↔ t.val = 0 := by decide +kernel
abbrev condB (i : grid0.Coords) : Prop := k0_cond2 i = 1#1
/-- The second is taken before the last point. -/
theorem hcondB : ∀ t : Fin grid0.N, condB (grid0.coords t) ↔ t.val < 63 := by decide +kernel

/-! ## The operands of the body's own transfers -/

abbrev scrM : Memref sig .tc .vmem S2x512x800 .f32 := Memref.whole cc0_scratch0
abbrev poolM : Memref sig .tc .hbm S64x800x800 .f32 := Memref.whole main_v0
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

abbrev osem : Fin 2 → SemLoc sig := fun j => (![SemLoc.dma 3, SemLoc.dma 4] : Fin 2 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 3) 0 ∗ semVal ((c : Thread nD τ), SemLoc.dma 4) 0) := by
  rw [Pipeline.ownSems0_eq_of_list c osem [0, 1] (by decide) (by decide)]; rfl
def Hs : Finset (Ref sig .tc) := {main_v0}
theorem Hs_sub : Hs ⊆ Pipeline.restRefs sig spec0 := by decide
theorem hbmPts_eq (c : Dev nD) :
    (bigSep Hs (fun b => ((c : Thread nD τ).loc b) ↦{fullShare} V m c b) : sProp 𝕄) = iprop(hbPt c poolM (V m c main_v0)) := by
  rw [BI.bigSep_eq_bigSepL_of_eq [main_v0] (by decide) (by decide)]; rfl
/-- What the launch lends the body's transfers, piece by piece. -/
theorem PhiD_eq (c : Dev nD) :
    (Pipeline.ΦD osem spec0 Hs (V m) c : sProp 𝕄)
      = iprop(iprop((∃ d, owns (c : Thread nD τ) scrM fullShare d)) ∗ (∃ r, prngReg c r) ∗ iprop(semVal ((c : Thread nD τ), SemLoc.dma 3) 0 ∗ semVal ((c : Thread nD τ), SemLoc.dma 4) 0) ∗ iprop(hbPt c poolM (V m c main_v0))) := by
  rw [Pipeline.ΦD_eq, scopedRest0_eq, ownSems_eq, hbmPts_eq]; simp only [scrM, owns_whole]; try rfl

/-! ## The ring: slots, planes, cells -/

instance : NeZero grid0.N := ⟨by rw [N_0]; decide⟩
theorem inb_slot (s : Fin 2) : ∀ a, (![s.val, 0, 0] : Fin 3 → Nat) a + S1x512x800.size a ≤ S2x512x800.size a := by
  have := s.isLt; intro a; fin_cases a <;> simp <;> omega
theorem inb_src (w : S256.Idx → F .f32) (b : Fin 64) : ∀ a, (![b.val, top w b, 0] : Fin 3 → Nat) a + S1x512x800.size a ≤ S64x800x800.size a := by
  have hc : top w b ≤ 288 := top_le w b
  have := b.isLt; intro a; fin_cases a <;> simp <;> omega
theorem inb_cell (s : Fin 2) : ∀ a, (![s.val] : Fin 1 → Nat) a + S1.size a ≤ S2.size a := by
  have := s.isLt; intro a; fin_cases a <;> simp <;> omega
/-- Slot `s` of the scratch. -/
def slot (s : Fin 2) : Memref sig .tc .vmem S512x800 .f32 :=
  (scrM.slice (Rect.unit (s := S2x512x800) ![s.val, 0, 0] S1x512x800.size (inb_slot s)) (fun _ => rfl)).squeeze S512x800 squeezes_S1x512x800_S512x800
/-- The window step `b` works on: 512 rows of mask `b`, from its first row on. -/
def plane (w : S256.Idx → F .f32) (b : Fin 64) : Memref sig .tc .hbm S512x800 .f32 :=
  (poolM.slice (Rect.unit (s := S64x800x800) ![b.val, top w b, 0] S1x512x800.size (inb_src w b)) (fun _ => rfl)).squeeze S512x800 squeezes_S1x512x800_S512x800
/-- Cell `s` of the semaphores, and its number in the pool. -/
def cellA (s : Fin 2) : DmaSems sig S_ := (cc0_scratch1.slice (Rect.unit (s := S2) ![s.val] S1.size (inb_cell s))).squeeze S_ squeezes_S1_S_
abbrev cellR (s : Fin 2) : SemLoc sig := SemLoc.dma (cellA s).sem
theorem cellR_0 : cellR 0 = SemLoc.dma 3 := by decide
theorem cellR_1 : cellR 1 = SemLoc.dma 4 := by decide

section Families
variable (c : Dev nD) (w : S256.Idx → F .f32) (W : HbBuf (F := F) c poolM)
/-- The masks are lent by share, one half to each slot's transfers. -/
abbrev qs (s : Fin 2) : PosShare TreeShare := if s.val = 0 then fullShare.left else fullShare.right
abbrev slotP (s : Fin 2) (f : HbBuf (F := F) c (slot s)) : sProp 𝕄 := (slot s).view.loc (c : Thread nD τ) ↦[(slot s).view.set]{fullShare} f
abbrev cellP (s : Fin 2) : sProp 𝕄 := semVal ((c : Thread nD τ), cellR s) 0
abbrev srcP (s : Fin 2) (b : Fin 64) : sProp 𝕄 := (plane w b).view.loc (c : Thread nD τ) ↦[(plane w b).view.set]{qs s} W
/-- What a slot's half of the masks holds beside the plane in flight. -/
def restP (s : Fin 2) (b : Fin 64) : sProp 𝕄 := ((c : Thread nD τ).loc main_v0) ↦[Finset.univ \ (plane w b).view.set]{qs s} W
abbrev wholeP (s : Fin 2) : sProp 𝕄 := ((c : Thread nD τ).loc main_v0) ↦[Finset.univ]{qs s} W
/-- Slot `s` once plane `b` has landed in it. -/
abbrev landed (s : Fin 2) (b : Fin 64) (f : HbBuf (F := F) c (slot s)) : HbBuf (F := F) c (slot s) :=
  (slot s).view.writes (Elt F) f [⟨Rect.whole S512x800, ReadAs.same.apply ((plane w b).view.read (Elt F) W)⟩]
/-- Plane `b` on its way into slot `s`. -/
abbrev flightP (s : Fin 2) (b : Fin 64) (f : HbBuf (F := F) c (slot s)) : sProp 𝕄 :=
  Transfers.Flight countersEmb (c : Thread nD τ) (cellR s) default ((slot s).view.amount (cellR s))
    iprop(slotP c s (landed c w W s b f) ∗ srcP c w W s b)
abbrev slotW (s : Fin 2) (f : HbBuf (F := F) c (slot s)) : sProp 𝕄 := iprop(slotP c s f ∗ wholeP c W s)
abbrev flightW (s : Fin 2) (b : Fin 64) (f : HbBuf (F := F) c (slot s)) : sProp 𝕄 := iprop(flightP c w W s b f ∗ restP c w W s b)
abbrev noHome (b : Fin 64) : sProp 𝕄 := iprop(emp)
/-- The ring before step `k`: both slots free before the first; after that plane `k` on its way into one slot, the other
    still holding plane `k - 1`. -/
def ringAt (k : ℕ) : sProp 𝕄 :=
  if k = 0 then Ring.At₀ (cellP c) (slotW c W) noHome
  else Ring.AtK 1 (cellP c) (slotW c W) noHome (flightW c w W) (landed c w W) k
omit [FloatOps F] [Named F] in
theorem cellP_0 : cellP (F := F) c 0 = semVal ((c : Thread nD τ), SemLoc.dma 3) 0 := congrArg (fun x => (semVal ((c : Thread nD τ), x) 0 : sProp 𝕄)) cellR_0
omit [FloatOps F] [Named F] in
theorem cellP_1 : cellP (F := F) c 1 = semVal ((c : Thread nD τ), SemLoc.dma 4) 0 := congrArg (fun x => (semVal ((c : Thread nD τ), x) 0 : sProp 𝕄)) cellR_1
end Families

abbrev slotSet (s : Fin 2) : Finset S2x512x800.Idx := (Rect.unit (s := S2x512x800) ![s.val, 0, 0] S1x512x800.size (inb_slot s)).set
theorem slotSet_eq (s : Fin 2) : (slot s).view.set = slotSet s := by
  simp only [slot, Memref.view_squeeze, View.set_reshape]; exact View.set_slice_whole _ _
theorem slots_disjoint (s s' : Fin 2) (h : s ≠ s') : Disjoint (slotSet s) (slotSet s') :=
  Ring.lead_disjoint (s := S2x512x800) (0 : Fin 3) 1 (fun s : Fin 2 => (![s.val, 0, 0] : Fin 3 → Nat)) S1x512x800.size inb_slot (fun s => by simp) rfl s s' h
theorem slots_cover : Finset.univ.biUnion slotSet = Finset.univ :=
  Ring.lead_cover (s := S2x512x800) (0 : Fin 3) 1 (fun s : Fin 2 => (![s.val, 0, 0] : Fin 3 → Nat)) S1x512x800.size inb_slot (fun s => by simp)
    (fun s a ha => by fin_cases a <;> first | exact absurd rfl ha | rfl) rfl (fun a ha => by fin_cases a <;> first | exact absurd rfl ha | rfl) rfl

section InOut
variable (c : Dev nD) (w : S256.Idx → F .f32) (W : HbBuf (F := F) c poolM)
theorem slotP_eq (s : Fin 2) (f) : slotP (F := F) c s f = (((c : Thread nD τ).loc cc0_scratch0) ↦[slotSet s]{fullShare} f : sProp 𝕄) := by
  unfold slotP; rw [slotSet_eq]; rfl
theorem src_split (s : Fin 2) (b : Fin 64) : wholeP (F := F) c W s ⊣⊢ iprop(srcP c w W s b ∗ restP c w W s b) := by
  unfold restP; exact pointsTo_split_subset (Finset.subset_univ _)
theorem whole_split : (hbPt c poolM W : sProp 𝕄) ⊣⊢ iprop(wholeP c W 0 ∗ wholeP c W 1) :=
  pointsTo_share (PosShare.mem_left_op_right fullShare)
set_option maxHeartbeats 1000000 in
theorem slots_in : iprop(∃ d, owns (c : Thread nD τ) scrM fullShare d) ⊢ (iprop((∃ f, slotP (F := F) c 0 f) ∗ ∃ f, slotP (F := F) c 1 f) : sProp 𝕄) := by
  simp only [scrM, owns_whole]
  exact Ring.slots2_split (U := Pipeline.UD sig nD τ) (ℓ := (c : Thread nD τ).loc cc0_scratch0) (q := fullShare) slotSet slots_disjoint slots_cover
    (slotP c 0) (slotP c 1) (slotP_eq c 0) (slotP_eq c 1)
set_option maxHeartbeats 1000000 in
theorem slots_out : (iprop((∃ f, slotP (F := F) c 0 f) ∗ ∃ f, slotP (F := F) c 1 f) : sProp 𝕄) ⊢ iprop(∃ d, owns (c : Thread nD τ) scrM fullShare d) := by
  simp only [scrM, owns_whole]
  exact Ring.slots2_join (U := Pipeline.UD sig nD τ) (ℓ := (c : Thread nD τ).loc cc0_scratch0) (q := fullShare) slotSet slots_disjoint slots_cover
    (slotP c 0) (slotP c 1) (slotP_eq c 0) (slotP_eq c 1)

/-- The launch's pieces are the ring before its first step; -/
theorem ring_in :
    iprop((∃ d, owns (c : Thread nD τ) scrM fullShare d) ∗ (semVal ((c : Thread nD τ), SemLoc.dma 3) 0 ∗ semVal ((c : Thread nD τ), SemLoc.dma 4) 0) ∗ hbPt c poolM W)
      ⊢ ringAt c w W 0 := by
  unfold ringAt; rw [if_pos rfl]; unfold Ring.At₀
  rw [Ring.bigSep_fin2]
  simp only [Ring.free, cellP_0, cellP_1]
  iintro ⟨HS, Hc, HW⟩
  iapply Ring.with_homes₀
  icases Hc with ⟨H0, H1⟩
  ihave HS' := (slots_in (F := F) c) $$ HS
  icases HS' with ⟨⟨%d0, HS0⟩, ⟨%d1, HS1⟩⟩
  ihave HW' := (whole_split (F := F) c W).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- and after the last step the ring is those pieces again. -/
theorem ring_out :
    ringAt c w W 64
      ⊢ iprop((∃ d, owns (c : Thread nD τ) scrM fullShare d) ∗ (semVal ((c : Thread nD τ), SemLoc.dma 3) 0 ∗ semVal ((c : Thread nD τ), SemLoc.dma 4) 0) ∗ hbPt c poolM W) := by
  unfold ringAt; rw [if_neg (by decide)]
  iintro H
  ihave H' := (Ring.free2_of_AtK_last _ _ _ _ _) $$ H
  simp only [Ring.free, cellP_0, cellP_1]
  icases H' with ⟨-, ⟨H0, ⟨%f0, HS0, HW0⟩⟩, ⟨H1, ⟨%f1, HS1, HW1⟩⟩⟩
  isplitl [HS0 HS1]
  · iapply (slots_out (F := F) c); isplitl [HS0]; · iexists f0; iexact HS0
    iexists f1; iexact HS1
  isplitl [H0 H1]
  · isplitl [H0]; · iexact H0
    iexact H1
  · iapply (whole_split (F := F) c W).2; isplitl [HW0]; · iexact HW0
    iexact HW1
end InOut

/-! ## The body's spellings of the ring's slots, planes and cells -/

section Canon
theorem step_first : ∀ t : Fin grid0.N, condA (grid0.coords t) → t.val = 0 := fun t h => (hcondA t).mp h
theorem sl_0 (t : Fin grid0.N) (h : condA (grid0.coords t)) : Ring.sl 2 t.val = 0 := by rw [step_first t h]; rfl
theorem bk_0 (t : Fin grid0.N) (h : condA (grid0.coords t)) : Ring.bk 64 t.val = 0 := by rw [step_first t h]; rfl
theorem canon_slotA (t : Fin grid0.N) (h : condA (grid0.coords t)) :
    (scrM.slice (Rect.unit (s := S2x512x800) ![0, 0, 0] S1x512x800.size inb_S2x512x800_S1x512x800_0_0_0) (fun _ => rfl)).squeeze S512x800 squeezes_S1x512x800_S512x800 = slot (Ring.sl 2 t.val) := by
  rw [sl_0 t h]; rfl
theorem canon_cellA (t : Fin grid0.N) (h : condA (grid0.coords t)) :
    (cc0_scratch1.slice (Rect.unit (s := S2) ![0] S1.size inb_S2_S1_0)).squeeze S_ squeezes_S1_S_ = cellA (Ring.sl 2 t.val) := by
  rw [sl_0 t h]; rfl
theorem canon_srcA (w : S256.Idx → F .f32) (t : Fin grid0.N) (h : condA (grid0.coords t)) (v : BitVec 32) (hv : (topW v).toNat = top w (Ring.bk 64 t.val)) (hb) :
    (poolM.slice (Rect.unit (s := S64x800x800) (k0_off1 v) S1x512x800.size hb) (fun _ => rfl)).squeeze S512x800 squeezes_S1x512x800_S512x800 = plane w (Ring.bk 64 t.val) :=
  congrArg (fun M : Memref sig .tc .hbm S1x512x800 .f32 => M.squeeze S512x800 squeezes_S1x512x800_S512x800)
    (Memref.slice_unit_congr _ (by unfold k0_off1; rw [← hv, bk_0 t h]; rfl) _ _ (fun _ => rfl) (fun _ => rfl))

theorem coff_4 : ∀ t : Fin grid0.N, k0_off4 (grid0.coords t) = ![(Ring.sl 2 (t.val + 1)).val, 0, 0] := by decide +kernel
@[sl_canon] theorem canon_4 (t : Fin grid0.N) (h1 : condB (grid0.coords t)) :
    (scrM.slice (Rect.unit (s := S2x512x800) (k0_off4 (grid0.coords t)) S1x512x800.size (k0_off4_inb (grid0.coords t) h1)) (fun _ => rfl)).squeeze S512x800 squeezes_S1x512x800_S512x800 = slot (Ring.sl 2 (t.val + 1)) :=
  congrArg (fun M : Memref sig .tc .vmem S1x512x800 .f32 => M.squeeze S512x800 squeezes_S1x512x800_S512x800) (Memref.slice_unit_congr _ (coff_4 t) _ _ (fun _ => rfl) (fun _ => rfl))
theorem coff_3 : ∀ t : Fin grid0.N, k0_off3 (grid0.coords t) = ![(Ring.sl 2 (t.val + 1)).val] := by decide +kernel
@[sl_canon] theorem canon_3 (t : Fin grid0.N) (h1 : condB (grid0.coords t)) :
    (cc0_scratch1.slice (Rect.unit (s := S2) (k0_off3 (grid0.coords t)) S1.size (k0_off3_inb (grid0.coords t) h1))).squeeze S_ squeezes_S1_S_ = cellA (Ring.sl 2 (t.val + 1)) :=
  congrArg (fun A : DmaSems sig S1 => A.squeeze S_ squeezes_S1_S_) (SemArray.slice_unit_congr _ (coff_3 t) _ _)
theorem coff_8 : ∀ t : Fin grid0.N, k0_off8 (grid0.coords t) = ![(Ring.sl 2 t.val).val, 0, 0] := by decide +kernel
@[sl_canon] theorem canon_8 (t : Fin grid0.N) :
    (scrM.slice (Rect.unit (s := S2x512x800) (k0_off8 (grid0.coords t)) S1x512x800.size (k0_off8_inb (grid0.coords t))) (fun _ => rfl)).squeeze S512x800 squeezes_S1x512x800_S512x800 = slot (Ring.sl 2 t.val) :=
  congrArg (fun M : Memref sig .tc .vmem S1x512x800 .f32 => M.squeeze S512x800 squeezes_S1x512x800_S512x800) (Memref.slice_unit_congr _ (coff_8 t) _ _ (fun _ => rfl) (fun _ => rfl))
theorem coff_7 : ∀ t : Fin grid0.N, k0_off7 (grid0.coords t) = ![(Ring.sl 2 t.val).val] := by decide +kernel
@[sl_canon] theorem canon_7 (t : Fin grid0.N) :
    (cc0_scratch1.slice (Rect.unit (s := S2) (k0_off7 (grid0.coords t)) S1.size (k0_off7_inb (grid0.coords t)))).squeeze S_ squeezes_S1_S_ = cellA (Ring.sl 2 t.val) :=
  congrArg (fun A : DmaSems sig S1 => A.squeeze S_ squeezes_S1_S_) (SemArray.slice_unit_congr _ (coff_7 t) _ _)
/-- The mask of the next step, and of this one. -/
theorem coff_5 : ∀ t : Fin grid0.N, condB (grid0.coords t) → k0_off5 (grid0.coords t) 0#32 0 = (Ring.bk 64 (t.val + 1)).val := by decide +kernel
theorem coff_9 : ∀ t : Fin grid0.N, k0_off9 (grid0.coords t) 0#32 0 = (Ring.bk 64 t.val).val := by decide +kernel
theorem off5_eq (t : Fin grid0.N) (h1 : condB (grid0.coords t)) (v : BitVec 32) :
    k0_off5 (grid0.coords t) v = ![(Ring.bk 64 (t.val + 1)).val, (topW v).toNat, 0] := by
  rw [← coff_5 t h1]; rfl
theorem off9_eq (t : Fin grid0.N) (v : BitVec 32) :
    k0_off9 (grid0.coords t) v = ![(Ring.bk 64 t.val).val, (topW v).toNat, 0] := by
  rw [← coff_9 t]; rfl
theorem canon_5 (w : S256.Idx → F .f32) (t : Fin grid0.N) (h1 : condB (grid0.coords t)) (v : BitVec 32) (hv : (topW v).toNat = top w (Ring.bk 64 (t.val + 1))) (hb) :
    (poolM.slice (Rect.unit (s := S64x800x800) (k0_off5 (grid0.coords t) v) S1x512x800.size hb) (fun _ => rfl)).squeeze S512x800 squeezes_S1x512x800_S512x800 = plane w (Ring.bk 64 (t.val + 1)) :=
  congrArg (fun M : Memref sig .tc .hbm S1x512x800 .f32 => M.squeeze S512x800 squeezes_S1x512x800_S512x800)
    (Memref.slice_unit_congr _ (by rw [off5_eq t h1 v, hv]) _ _ (fun _ => rfl) (fun _ => rfl))
theorem canon_9 (w : S256.Idx → F .f32) (t : Fin grid0.N) (v : BitVec 32) (hv : (topW v).toNat = top w (Ring.bk 64 t.val)) (hb) :
    (poolM.slice (Rect.unit (s := S64x800x800) (k0_off9 (grid0.coords t) v) S1x512x800.size hb) (fun _ => rfl)).squeeze S512x800 squeezes_S1x512x800_S512x800 = plane w (Ring.bk 64 t.val) :=
  congrArg (fun M : Memref sig .tc .hbm S1x512x800 .f32 => M.squeeze S512x800 squeezes_S1x512x800_S512x800)
    (Memref.slice_unit_congr _ (by rw [off9_eq t v, hv]) _ _ (fun _ => rfl) (fun _ => rfl))
theorem coff_10 : ∀ t : Fin grid0.N, k0_off10 (grid0.coords t) = ![(Ring.sl 2 t.val).val, 0, 0] := by decide +kernel
instance (priority := high) closedOff_10 (t : Fin grid0.N) : ClosedOff (k0_off10 (grid0.coords t)) := ⟨![(Ring.sl 2 t.val).val, 0, 0], coff_10 t⟩

/-! ### The boxes' coordinates as the body reads them -/

/-- A window lies in the masks. -/
theorem box_inb {n k : ℕ} (hn : n < 64) (hk : k ≤ 288) : ∀ a, (![n, k, 0] : Fin 3 → ℕ) a + S1x512x800.size a ≤ S64x800x800.size a := by
  intro a; fin_cases a <;> simp <;> omega
theorem chk1 (i : grid0.Coords) (v : BitVec 32) : k0_chk1 i v := ⟨fun _ => topW_dvd v, fun _ => box_inb (by decide) (topW_le v)⟩
theorem chk2 (t : Fin grid0.N) (v : BitVec 32) : k0_chk2 (grid0.coords t) v := ⟨fun _ => topW_dvd v, fun h1 => by
  rw [off5_eq t h1]; exact box_inb (Ring.bk 64 (t.val + 1)).isLt (topW_le v)⟩
theorem chk3 (t : Fin grid0.N) (v : BitVec 32) : k0_chk3 (grid0.coords t) v := ⟨topW_dvd v, by
  rw [off9_eq t]; exact box_inb (Ring.bk 64 t.val).isLt (topW_le v)⟩
end Canon

/-- What a unit rectangle of the boxes reads is the coordinate there. -/
theorem cor_at (arg1 : Memref sig .tc .smem S256 .f32) (harg1 : arg1.IsWhole) (x0 : Vec F S256 .f32)
    (off : Fin 1 → ℕ) (hoff) (b : Fin 64) (r : Fin 4) (h : off = ![b.val * 4 + r.val]) (x) :
    arg1.view.readAt (Elt F) (Rect.unit (s := S256) off S1.size hoff).toLoadRect (harg1.unread x0) x = cor x0 b r := by
  subst h
  rw [View.readAt_apply]
  have e := congrFun (harg1.read_unread x0)
  refine (e _).trans (congrArg x0 ?_)
  funext a
  fin_cases a
  apply Fin.ext
  have hx : (x 0).val = 0 := Nat.lt_one_iff.mp (x 0).isLt
  change b.val * 4 + r.val + 1 * (x 0).val = b.val * 4 + r.val
  omega
theorem off2_eq : ∀ t : Fin grid0.N, condB (grid0.coords t) → k0_off2 (grid0.coords t) = ![(Ring.bk 64 (t.val + 1)).val * 4 + (1 : Fin 4).val] := by decide +kernel
theorem off6_eq : ∀ (t : Fin grid0.N) (r : Fin 4), k0_off6 (grid0.coords t) (BitVec.ofNat 32 r.val) = ![(Ring.bk 64 t.val).val * 4 + r.val] := by decide +kernel

end Cert.CropIdeal.Own

end
-- ==== Proof.CropIdealRun.lean ====
/- The body of the crop call, run once: what it does at the first point, at a point in between, and at the last. -/
module

public import proofs.«01_k».proof.Proof.CropIdealRing
public import Idealize.ShloMosaic.Lib.VecWindow

@[expose] public section

set_option maxRecDepth 16384

noncomputable section

namespace Cert.CropIdeal.Own

open Cert.CropIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## What a step computes -/

/-- The window of step `b`, with the leading unit axis the slot has. -/
def blk {c : Dev nD} (w : S256.Idx → F .f32) (X : HbBuf (F := F) c poolM) (b : Fin 64) : Vec F S1x512x800 .f32 :=
  fun x => (plane w b).view.read (Elt F) X ((Shape.reshapeEquiv squeezes_S1x512x800_S512x800.numel_eq).symm x)
/-- What the body loads from a slot a window has landed in: that window. -/
theorem load_landed {c : Dev nD} (s : Fin 2) (off : Fin 3 → ℕ) (hoff) (h : off = ![s.val, 0, 0]) (f : HbBuf (F := F) c (slot s)) (p : S512x800.Idx → Elt F .f32) :
    scrM.view.readAt (Elt F) (Rect.unit (s := S2x512x800) off S1x512x800.size hoff).toLoadRect ((slot s).view.writes (Elt F) f [⟨Rect.whole S512x800, p⟩])
      = fun x => p ((Shape.reshapeEquiv squeezes_S1x512x800_S512x800.numel_eq).symm x) := by
  subst h
  funext x
  have hr := congrFun (View.read_writes_whole (slot s).view f p) ((Shape.reshapeEquiv squeezes_S1x512x800_S512x800.numel_eq).symm x)
  rw [← hr]
  change _ = (scrM.view.slice (Rect.unit (s := S2x512x800) ![s.val, 0, 0] S1x512x800.size hoff)).read (Elt F) _ (Shape.reshapeEquiv squeezes_S1x512x800_S512x800.numel_eq ((Shape.reshapeEquiv squeezes_S1x512x800_S512x800.numel_eq).symm x))
  rw [Equiv.apply_symm_apply]
  rfl
/-- The crop of a window at a box with left, top, right and bottom `a₀ a₁ a₂ a₃`, as the body computes it. -/
def outC (a₀ a₁ a₂ a₃ : F .f32) (p : Vec F S1x512x800 .f32) : Vec F S1x28x28 .f32 :=
  k0_pay1 (k0_pay6 a₁ a₃ (k0_pay4 a₁) k0_pay5) (k0_pay7 a₀ a₂) p
/-- Step `b`'s crop. -/
def outB {c : Dev nD} (x : S256.Idx → F .f32) (X : HbBuf (F := F) c poolM) (b : Fin 64) : Vec F S1x28x28 .f32 :=
  outC (cor x b 0) (cor x b 1) (cor x b 2) (cor x b 3) (blk x X b)

variable (c : Dev nD) (t : Fin grid0.N)

section Cases
variable (arg1 : Memref sig .tc .smem S256 .f32) (harg1 : arg1.IsWhole)
  (arg3 : Memref sig .tc .vmem S1x28x28 .f32) (harg3 : arg3.IsWhole)
  (x0 : Vec F S256 .f32) (X : HbBuf (F := F) c poolM)

set_option maxHeartbeats 4000000 in
theorem run_B (hA : ¬condA (grid0.coords t)) (hB : condB (grid0.coords t))
    (W : Waits sig Unit) (K : PUnit → sProp 𝕄) :
    iprop(owns (c : Thread nD τ) arg1 fullShare x0 ∗ (∃ d, owns (c : Thread nD τ) arg3 fullShare d)
        ∗ Ring.inflight (flightW c x0 X) (Ring.sl 2 t.val) (Ring.bk 64 t.val) ∗ Ring.kept (cellP c) (slotW c X) (landed c x0 X) (Ring.sl 2 (t.val + 1)) (Ring.bk 64 (t.val - 1)) ∗ owes (c : Thread nD τ) 0 W
        ∗ (iprop(owns (c : Thread nD τ) arg1 fullShare x0
            ∗ owns (c : Thread nD τ) arg3 fullShare (outB x0 X (Ring.bk 64 t.val))
            ∗ Ring.inflight (flightW c x0 X) (Ring.sl 2 (t.val + 1)) (Ring.bk 64 (t.val + 1)) ∗ Ring.kept (cellP c) (slotW c X) (landed c x0 X) (Ring.sl 2 t.val) (Ring.bk 64 t.val) ∗ (∃ W', owes (c : Thread nD τ) 0 W')) -∗ K ⟨⟩))
      ⊢ wp frame (wpE (defs₀ (F := F)) Variants.none c none) Set.univ
          (cc0_crop_resize (grid0.coords t) arg1 harg1 poolM (Memref.isWhole_whole _) arg3 harg3 scrM (Memref.isWhole_whole _) cc0_scratch1) K := by
  haveI : Fact (¬condA (grid0.coords t)) := ⟨hA⟩
  haveI : Fact (condB (grid0.coords t)) := ⟨hB⟩
  have e2 := fun x => cor_at arg1 harg1 x0 (k0_off2 (grid0.coords t)) (k0_off2_inb (grid0.coords t) hB) (Ring.bk 64 (t.val + 1)) 1 (off2_eq t hB) x
  have c2 := chk2 t
  have e6 := fun r x => cor_at arg1 harg1 x0 (k0_off6 (grid0.coords t) (BitVec.ofNat 32 (r : Fin 4).val)) (k0_off6_inb (grid0.coords t) r) (Ring.bk 64 t.val) r (off6_eq t r) x
  have c6 := chk3 t
  simp only [cc0_crop_resize_eq_skeleton]; unfold cc0_crop_resize_skel
  simp only [k0_part2_eq_skeleton, k0_part1_eq_skeleton, k0_part3_eq_skeleton, k0_part4_eq_skeleton]
  unfold owns Ring.inflight Ring.kept
  iintro ⟨⟨%f0, %hf0, H0⟩, ⟨%d1, %f1, -, H1⟩, ⟨%ff, Hf, Hrf⟩, ⟨Hc, ⟨%fs, Hs, Hw⟩⟩, HW, Hk⟩
  ihave Hsp := (src_split c x0 X (Ring.sl 2 (t.val + 1)) (Ring.bk 64 (t.val + 1))).1 $$ Hw
  icases Hsp with ⟨Hh, Hr⟩
  obtain rfl := harg1.eq_unread hf0
  sl_exec (disch := first | sl_exact hA | sl_exact hB | sl_exact c2 _ | sl_exact c6 _)
  simp only [canon_5 x0 t hB (run_B.sl.v151 c t arg1 harg1 x0 hB) (congrArg (fun z : F .f32 => (topW (Scalar.fptosi 32 (Scalar.floor z))).toNat) (e2 _)), canon_4 t hB, canon_3 t hB]
  sl_exec (disch := first | sl_exact hA | sl_exact hB | sl_exact c2 _ | sl_exact c6 _)
  sl_step
  iapply Hk
  isplitl [H0]
  · iexists _; isplitr; · ipureintro; exact harg1.read_unread _
    iexact H0
  isplitl [H1]
  · iexists _; isplitr; swap; · iexact H1
    ipureintro
    refine (View.read_writes_full arg3.view f1 _ _ []).trans ?_
    unfold outB
    rw [← e6 0 (Shape.Idx.first (numel1_S1.symm ▸ Nat.one_pos)), ← e6 1 (Shape.Idx.first (numel1_S1.symm ▸ Nat.one_pos)), ← e6 2 (Shape.Idx.first (numel1_S1.symm ▸ Nat.one_pos)), ← e6 3 (Shape.Idx.first (numel1_S1.symm ▸ Nat.one_pos))]
    exact congrArg (outC (F := F) _ _ _ _) (load_landed (c := c) _ _ _ (coff_10 t) _ _)
  isplitl [Hc Hr]
  · iexists _; isplitl [Hc]; · iexact Hc
    iexact Hr
  isplitl [Hf Hf_dst Hf_src Hrf]
  · isplitl [Hf]; · iexact Hf
    iexists _; isplitl [Hf_dst]; · iexact Hf_dst
    iapply (src_split c x0 X (Ring.sl 2 t.val) (Ring.bk 64 t.val)).2; isplitl [Hf_src]; · iexact Hf_src
    iexact Hrf
  iexists _; iexact HW
set_option maxHeartbeats 4000000 in
theorem run_C (hA : ¬condA (grid0.coords t)) (hB : ¬condB (grid0.coords t))
    (W : Waits sig Unit) (K : PUnit → sProp 𝕄) :
    iprop(owns (c : Thread nD τ) arg1 fullShare x0 ∗ (∃ d, owns (c : Thread nD τ) arg3 fullShare d)
        ∗ Ring.inflight (flightW c x0 X) (Ring.sl 2 t.val) (Ring.bk 64 t.val) ∗ owes (c : Thread nD τ) 0 W
        ∗ (iprop(owns (c : Thread nD τ) arg1 fullShare x0
            ∗ owns (c : Thread nD τ) arg3 fullShare (outB x0 X (Ring.bk 64 t.val))
            ∗ Ring.kept (cellP c) (slotW c X) (landed c x0 X) (Ring.sl 2 t.val) (Ring.bk 64 t.val) ∗ (∃ W', owes (c : Thread nD τ) 0 W')) -∗ K ⟨⟩))
      ⊢ wp frame (wpE (defs₀ (F := F)) Variants.none c none) Set.univ
          (cc0_crop_resize (grid0.coords t) arg1 harg1 poolM (Memref.isWhole_whole _) arg3 harg3 scrM (Memref.isWhole_whole _) cc0_scratch1) K := by
  haveI : Fact (¬condA (grid0.coords t)) := ⟨hA⟩
  haveI : Fact (¬condB (grid0.coords t)) := ⟨hB⟩
  have e6 := fun r x => cor_at arg1 harg1 x0 (k0_off6 (grid0.coords t) (BitVec.ofNat 32 (r : Fin 4).val)) (k0_off6_inb (grid0.coords t) r) (Ring.bk 64 t.val) r (off6_eq t r) x
  have c6 := chk3 t
  simp only [cc0_crop_resize_eq_skeleton]; unfold cc0_crop_resize_skel
  simp only [k0_part2_eq_skeleton, k0_part3_eq_skeleton, k0_part4_eq_skeleton]
  unfold owns Ring.inflight Ring.kept
  iintro ⟨⟨%f0, %hf0, H0⟩, ⟨%d1, %f1, -, H1⟩, ⟨%ff, Hf, Hrf⟩, HW, Hk⟩
  obtain rfl := harg1.eq_unread hf0
  sl_exec (disch := first | sl_exact hA | sl_exact hB | sl_exact c6 _)
  sl_step
  iapply Hk
  isplitl [H0]
  · iexists _; isplitr; · ipureintro; exact harg1.read_unread _
    iexact H0
  isplitl [H1]
  · iexists _; isplitr; swap; · iexact H1
    ipureintro
    refine (View.read_writes_full arg3.view f1 _ _ []).trans ?_
    unfold outB
    rw [← e6 0 (Shape.Idx.first (numel1_S1.symm ▸ Nat.one_pos)), ← e6 1 (Shape.Idx.first (numel1_S1.symm ▸ Nat.one_pos)), ← e6 2 (Shape.Idx.first (numel1_S1.symm ▸ Nat.one_pos)), ← e6 3 (Shape.Idx.first (numel1_S1.symm ▸ Nat.one_pos))]
    exact congrArg (outC (F := F) _ _ _ _) (load_landed (c := c) _ _ _ (coff_10 t) _ _)
  isplitl [Hf Hf_dst Hf_src Hrf]
  · isplitl [Hf]; · iexact Hf
    iexists _; isplitl [Hf_dst]; · iexact Hf_dst
    iapply (src_split c x0 X (Ring.sl 2 t.val) (Ring.bk 64 t.val)).2; isplitl [Hf_src]; · iexact Hf_src
    iexact Hrf
  iexists _; iexact HW
set_option maxHeartbeats 4000000 in
theorem run_A (hA : condA (grid0.coords t)) (hB : condB (grid0.coords t))
    (W : Waits sig Unit) (K : PUnit → sProp 𝕄) :
    iprop(owns (c : Thread nD τ) arg1 fullShare x0 ∗ (∃ d, owns (c : Thread nD τ) arg3 fullShare d)
        ∗ Ring.free (cellP c) (slotW c X) (Ring.sl 2 t.val) ∗ Ring.free (cellP c) (slotW c X) (Ring.sl 2 (t.val + 1)) ∗ owes (c : Thread nD τ) 0 W
        ∗ (iprop(owns (c : Thread nD τ) arg1 fullShare x0
            ∗ owns (c : Thread nD τ) arg3 fullShare (outB x0 X (Ring.bk 64 t.val))
            ∗ Ring.inflight (flightW c x0 X) (Ring.sl 2 (t.val + 1)) (Ring.bk 64 (t.val + 1)) ∗ Ring.kept (cellP c) (slotW c X) (landed c x0 X) (Ring.sl 2 t.val) (Ring.bk 64 t.val) ∗ (∃ W', owes (c : Thread nD τ) 0 W')) -∗ K ⟨⟩))
      ⊢ wp frame (wpE (defs₀ (F := F)) Variants.none c none) Set.univ
          (cc0_crop_resize (grid0.coords t) arg1 harg1 poolM (Memref.isWhole_whole _) arg3 harg3 scrM (Memref.isWhole_whole _) cc0_scratch1) K := by
  haveI : Fact (condA (grid0.coords t)) := ⟨hA⟩
  haveI : Fact (condB (grid0.coords t)) := ⟨hB⟩
  have e1 := fun x => cor_at arg1 harg1 x0 ![1] inb_S256_S1_1 (Ring.bk 64 t.val) 1 (by rw [bk_0 t hA]; rfl) x
  have n1 := canon_slotA t hA
  have n2 := canon_cellA t hA
  have c1 := chk1 (grid0.coords t)
  have e2 := fun x => cor_at arg1 harg1 x0 (k0_off2 (grid0.coords t)) (k0_off2_inb (grid0.coords t) hB) (Ring.bk 64 (t.val + 1)) 1 (off2_eq t hB) x
  have c2 := chk2 t
  have e6 := fun r x => cor_at arg1 harg1 x0 (k0_off6 (grid0.coords t) (BitVec.ofNat 32 (r : Fin 4).val)) (k0_off6_inb (grid0.coords t) r) (Ring.bk 64 t.val) r (off6_eq t r) x
  have c6 := chk3 t
  simp only [cc0_crop_resize_eq_skeleton]; unfold cc0_crop_resize_skel
  simp only [k0_part2_eq_skeleton, k0_part1_eq_skeleton, k0_part3_eq_skeleton, k0_part4_eq_skeleton]
  unfold owns Ring.free Ring.inflight Ring.kept
  iintro ⟨⟨%f0, %hf0, H0⟩, ⟨%d1, %f1, -, H1⟩, ⟨Hd, ⟨%ft, Ht, Hv⟩⟩, ⟨Hc, ⟨%fs, Hs, Hw⟩⟩, HW, Hk⟩
  ihave Hsq := (src_split c x0 X (Ring.sl 2 t.val) (Ring.bk 64 t.val)).1 $$ Hv
  icases Hsq with ⟨Hi, Hq⟩
  ihave Hsp := (src_split c x0 X (Ring.sl 2 (t.val + 1)) (Ring.bk 64 (t.val + 1))).1 $$ Hw
  icases Hsp with ⟨Hh, Hr⟩
  obtain rfl := harg1.eq_unread hf0
  sl_exec (disch := first | sl_exact hA | sl_exact hB | sl_exact c1 _ | sl_exact c2 _ | sl_exact c6 _)
  simp only [canon_srcA x0 t hA (run_A.sl.v147 c arg1 harg1 x0) (congrArg (fun z : F .f32 => (topW (Scalar.fptosi 32 (Scalar.floor z))).toNat) (e1 _)), n1, n2]
  sl_exec (disch := first | sl_exact hA | sl_exact hB | sl_exact c1 _ | sl_exact c2 _ | sl_exact c6 _)
  simp only [canon_5 x0 t hB (run_A.sl.v151 t arg1 harg1 x0 hB) (congrArg (fun z : F .f32 => (topW (Scalar.fptosi 32 (Scalar.floor z))).toNat) (e2 _)), canon_4 t hB, canon_3 t hB]
  sl_exec (disch := first | sl_exact hA | sl_exact hB | sl_exact c1 _ | sl_exact c2 _ | sl_exact c6 _)
  sl_step
  iapply Hk
  isplitl [H0]
  · iexists _; isplitr; · ipureintro; exact harg1.read_unread _
    iexact H0
  isplitl [H1]
  · iexists _; isplitr; swap; · iexact H1
    ipureintro
    refine (View.read_writes_full arg3.view f1 _ _ []).trans ?_
    unfold outB
    rw [← e6 0 (Shape.Idx.first (numel1_S1.symm ▸ Nat.one_pos)), ← e6 1 (Shape.Idx.first (numel1_S1.symm ▸ Nat.one_pos)), ← e6 2 (Shape.Idx.first (numel1_S1.symm ▸ Nat.one_pos)), ← e6 3 (Shape.Idx.first (numel1_S1.symm ▸ Nat.one_pos))]
    exact congrArg (outC (F := F) _ _ _ _) (load_landed (c := c) _ _ _ (coff_10 t) _ _)
  isplitl [Hc Hr]
  · iexists _; isplitl [Hc]; · iexact Hc
    iexact Hr
  isplitl [Hd Ht Hi Hq]
  · isplitl [Hd]; · iexact Hd
    iexists _; isplitl [Ht]; · iexact Ht
    iapply (src_split c x0 X (Ring.sl 2 t.val) (Ring.bk 64 t.val)).2; isplitl [Hi]; · iexact Hi
    iexact Hq
  iexists _; iexact HW
end Cases

end Cert.CropIdeal.Own

end
-- ==== Proof.CropIdealFrame.lean ====
/- The crop call launched: its proof data, its body at every point, and the frame. -/
module

public import proofs.«01_k».proof.Proof.CropIdealRun
public import Idealize.ShloMosaic.Lib.Claim

@[expose] public section

set_option maxRecDepth 16384

noncomputable section

namespace Cert.CropIdeal.Own

open Cert.CropIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The proof data -/

/-- The boxes as the region finds them, flattened. -/
abbrev x0 (c : Dev nD) : S256.Idx → F .f32 := V m c main_v1
/-- Between points: the generator's register and the ring. -/
def PhiR (c : Dev nD) (k : ℕ) : sProp 𝕄 :=
  iprop((∃ r, prngReg c r) ∗ ringAt c (x0 m c) (V m c main_v0) k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outB (c := c) (x0 m c) (V m c main_v0) (Ring.bk 64 t.val)
  Φ t := PhiR m c t.val
  q _ := fullShare
  owed _ := 0

/-- The one block of the boxes is the boxes. -/
theorem iblk_0 (c : Dev nD) (t : Fin cfg0.N) : iblk m c 0 t = x0 m c := by
  unfold iblk
  funext j
  refine congrArg (V m c main_v1) ?_
  funext a
  fin_cases a
  apply Fin.ext
  change 0 * 256 + 1 * (j 0).val = (j 0).val
  omega

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]; try rfl
theorem after_1 (c : Dev nD) (t : Fin cfg0.N) : (dats m 0 c).after 1 t = outB (c := c) (x0 m c) (V m c main_v0) (Ring.bk 64 t.val) := by dsimp only [dats]; try rfl
theorem before_0 (c : Dev nD) (t : Fin cfg0.N) (d) : (dats m 0 c).before 0 t d = iblk m c 0 t :=
  before_0_of m (dats m 0 c) (A_eq m c 0) (after_0 m c) t d
theorem Phi_castSucc (c : Dev nD) (t : Fin cfg0.N) : (dats m 0 c).Φ t.castSucc = PhiR m c t.val := by dsimp only [dats]; rfl
theorem Phi_succ (c : Dev nD) (t : Fin cfg0.N) : (dats m 0 c).Φ t.succ = PhiR m c (t.val + 1) := by dsimp only [dats]; rfl

/-! ## The body at every point -/

/-- The body as the pipeline calls it at point `t`. -/
abbrev bodyAt (t : Fin cfg0.N) : Prog (TpuEff nD τ sig (Elt F) Λ₀ .tc) PUnit :=
  cc0_crop_resize (grid0.coords t) (ms_0 t) (hs_0 t) poolM (Memref.isWhole_whole _) (ms_1 t) (hs_1 t) scrM (Memref.isWhole_whole _) cc0_scratch1

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t))

set_option maxHeartbeats 2000000 in
theorem sound_body (c : Dev nD) (t : Fin cfg0.N) :
    bodyPre m c t ⊢ wp frame (wpE (defs₀ (F := F)) Variants.none c none) Set.univ (bodyAt t) (fun _ => bodyPost m c t) := by
  obtain rfl : c = 0 := Subsingleton.elim _ _
  unfold bodyPre bodyPost bodyAt
  simp only [before_0, iblk_0]
  rw [after_0, iblk_0, after_1, Phi_castSucc m 0 t, Phi_succ m 0 t]
  unfold Dat.owesAt Pipeline.owesWithin
  rw [show (dats m 0 0).owed t.castSucc = 0 from rfl, show (dats m 0 0).owed t.succ = 0 from rfl]
  unfold PhiR ringAt
  have hN : t.val < 64 := lt_of_lt_of_eq t.isLt (show cfg0.N = 64 from N_0)
  by_cases h0 : t.val = 0
  · have hB : condB (grid0.coords t) := (hcondB t).mpr (by omega)
    rw [if_pos h0, if_neg (show ¬t.val + 1 = 0 by omega)]
    rw [Ring.At₀_eq2' _ _ _ t.val h0 (by decide : 2 ≤ 64), Ring.AtK2_one' _ _ _ _ _ t.val h0 (by decide : 1 < 64)]
    iintro ⟨⟨Hg, ⟨-, Hx, Hy⟩⟩, ⟨%W, -, HW⟩, ⟨%d0, H0⟩, ⟨%d1, H1⟩⟩
    iapply (run_A (0 : Dev nD) t _ (hs_0 t) _ (hs_1 t) (x0 m 0) (V m 0 main_v0) ((hcondA t).mpr h0) hB W _)
    isplitl [H0]; · iexact H0
    isplitl [H1]; · iexists _; iexact H1
    isplitl [Hx]; · iexact Hx
    isplitl [Hy]; · iexact Hy
    isplitl [HW]; · iexact HW
    iintro ⟨H0, H1, Hx, Hy, ⟨%W', HW'⟩⟩
    isplitl [Hg Hx Hy]
    · isplitl [Hg]; · iexact Hg
      iapply Ring.with_homes₀
      isplitl [Hx]; · iexact Hx
      iexact Hy
    isplitl [HW']
    · iexists W'; isplitr; · ipureintro; exact fun _ _ => Or.inl trivial
      iexact HW'
    isplitl [H0]; · iexact H0
    iexact H1
  · have hA : ¬condA (grid0.coords t) := fun h => h0 ((hcondA t).mp h)
    by_cases h1 : t.val < 63
    · rw [if_neg h0, if_neg (show ¬t.val + 1 = 0 by omega)]
      rw [Ring.AtK2_here _ _ _ _ _ t.val (by omega) (by omega), Ring.AtK2_next _ _ _ _ _ t.val (by omega) (by omega)]
      iintro ⟨⟨Hg, ⟨-, Hx, Hy⟩⟩, ⟨%W, -, HW⟩, ⟨%d0, H0⟩, ⟨%d1, H1⟩⟩
      iapply (run_B (0 : Dev nD) t _ (hs_0 t) _ (hs_1 t) (x0 m 0) (V m 0 main_v0) hA ((hcondB t).mpr h1) W _)
      isplitl [H0]; · iexact H0
      isplitl [H1]; · iexists _; iexact H1
      isplitl [Hx]; · iexact Hx
      isplitl [Hy]; · iexact Hy
      isplitl [HW]; · iexact HW
      iintro ⟨H0, H1, Hx, Hy, ⟨%W', HW'⟩⟩
      isplitl [Hg Hx Hy]
      · isplitl [Hg]; · iexact Hg
        iapply (Ring.with_homes (Idealize.SL.BI.Entails.refl _))
        isplitl [Hx]; · iexact Hx
        iexact Hy
      isplitl [HW']
      · iexists W'; isplitr; · ipureintro; exact fun _ _ => Or.inl trivial
        iexact HW'
      isplitl [H0]; · iexact H0
      iexact H1
    · rw [if_neg h0, if_neg (show ¬t.val + 1 = 0 by omega)]
      rw [Ring.AtK2_here_last _ _ _ _ _ t.val (by omega) (by omega), Ring.AtK2_next_last _ _ _ _ _ t.val (by omega) (by omega)]
      iintro ⟨⟨Hg, ⟨-, Hx, Hy⟩⟩, ⟨%W, -, HW⟩, ⟨%d0, H0⟩, ⟨%d1, H1⟩⟩
      iapply (run_C (0 : Dev nD) t _ (hs_0 t) _ (hs_1 t) (x0 m 0) (V m 0 main_v0) hA (fun h => h1 ((hcondB t).mp h)) W _)
      isplitl [H0]; · iexact H0
      isplitl [H1]; · iexists _; iexact H1
      isplitl [Hx]; · iexact Hx
      isplitl [HW]; · iexact HW
      iintro ⟨H0, H1, Hx, ⟨%W', HW'⟩⟩
      isplitl [Hg Hx Hy]
      · isplitl [Hg]; · iexact Hg
        iapply (Ring.with_homes (Idealize.SL.BI.Entails.refl _))
        isplitl [Hy]; · iexact Hy
        iexact Hx
      isplitl [HW']
      · iexists W'; isplitr; · ipureintro; exact fun _ _ => Or.inl trivial
        iexact HW'
      isplitl [H0]; · iexact H0
      iexact H1

theorem row_eq (t : Fin cfg0.N) : defs₀ (F := F) .tc cfg0.body (cfg0.bodyArgs t (cfg0.slots t)) = bodyAt t := by
  unfold defs₀; rw [Defs.onTc_tc]
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

theorem hin (c : Dev nD) : Pipeline.ΦD osem spec0 Hs (V m) c ⊢ (dats m 0 c).Φ 0 := by
  rw [PhiD_eq, show (dats m 0 c).Φ 0 = PhiR m c 0 from rfl]
  unfold PhiR
  iintro ⟨HS, Hg, ⟨Hp, Hq⟩, Hh⟩
  isplitl [Hg]; · iexact Hg
  iapply (ring_in (F := F) c (x0 m c) (V m c main_v0))
  isplitl [HS]; · iexact HS
  isplitl [Hp Hq]
  · isplitl [Hp]; · iexact Hp
    iexact Hq
  iexact Hh
theorem hout (c : Dev nD) : (dats m 0 c).Φ (Fin.last cfg0.N) ⊢ Pipeline.ΦD osem spec0 Hs (V m) c := by
  rw [PhiD_eq, show (dats m 0 c).Φ (Fin.last cfg0.N) = PhiR m c grid0.N from rfl]
  unfold PhiR
  rw [show grid0.N = 64 by rw [N_0]]
  iintro ⟨Hg, HR⟩
  ihave HX := (ring_out (F := F) c (x0 m c) (V m c main_v0)) $$ HR
  icases HX with ⟨HS, ⟨Hp, Hq⟩, Hh⟩
  isplitl [HS]; · iexact HS
  isplitl [Hg]; · iexact Hg
  isplitl [Hp Hq]
  · isplitl [Hp]; · iexact Hp
    iexact Hq
  iexact Hh

/-! ## The run and the frame -/

set_option backward.isDefEq.respectTransparency.types false in
theorem run_main : θ_run defs (onTc (τ := τ) (main (F := F))) (s₀ m ρ)
    (fun r => (Pipeline.FramePost cfgs (dats m) 0 (V m)) r ∧ r.2.sem = fun _ => 0) :=
  Pipeline.θ_run_frame_dma (Q' := _) cfgs (dats m) (0 : Fin 1) launch0 osem defs₀ Variants.none ownSemFacts Hs Hs_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨(h.1 c).2 main_arg0 (by decide : main_arg0 ∈ Pipeline.restRefs sig spec0) |>.trans (V_main_arg0 m c),
       (h.1 c).2 main_arg1 (by decide : main_arg1 ∈ Pipeline.restRefs sig spec0) |>.trans (V_main_arg1 m c)⟩, h.2⟩) (run_main m ρ)

end Cert.CropIdeal.Own

end
-- ==== Proof.CropBoxes.lean ====
module

public import proofs.«01_k».proof.Defs
public import proofs.«01_k».proof.Proof.Gen.Pre_heights_in_window
public import Idealize.ShloMosaic.Lib.StableHlo.Predicate
public import Idealize.ShloMosaic.Lib.WordCmp
public import Idealize.ShloMosaic.Lib.Pointwise

/-!
  The precondition of the crop read off: a box's bottom is not above its top, and at most 511 rows below it.
-/

@[expose] public section

set_option maxRecDepth 16384

noncomputable section

namespace Cert.Boxes

open Idealize.ShloMosaic Idealize.ShloMosaic.TcCoe

/-- `511.0`. -/
theorem ofBits_511 : Ideal.ofBits .f32 0x43FF8000#32 = ((511 : ℝ) : EReal) := by
  simp [Ideal.ofBits, Ideal.ieee, -EReal.coe_mul]; norm_num

/-- The comparisons, together, say so. -/
theorem side (a b : EReal) (h : IntOp.andi (Ideal.cmp .ole a b) (Ideal.cmp .ole (b - a) ((511 : ℝ) : EReal)) = 1#1) :
    a ≤ b ∧ b - a ≤ ((511 : ℝ) : EReal) := by
  unfold Ideal.cmp at h
  simpa only [WordCmp.andi_ofBool, WordCmp.ofBool_eq_one_iff, Bool.and_eq_true, decide_eq_true_eq] using h

theorem pred (m : FVec Ideal Cert.Pre_heights_in_window.S4x16x800x800 .f32) (z : FVec Ideal Cert.Pre_heights_in_window.S4x16x4 .f32)
    (h : Cert.Pre_heights_in_window.fn m z = fun _ => 1#1) (b : Fin 4) (g : Fin 16) :
    z (ix3 b g 1) ≤ z (ix3 b g 3) ∧ z (ix3 b g 3) - z (ix3 b g 1) ≤ ((511 : ℝ) : EReal) := by
  have e := congrFun h (ix2 b g)
  pointwise [Cert.Pre_heights_in_window.fn, ofBits_511] at e
  exact side _ _ e

end Cert.Boxes
-- ==== Proof.CropHat.lean ====
/- Linear interpolation as a sum over all columns. The weight of column `k` at the point `x` is `max 0 (1 - |x - k|)`; it
   is zero but at the two columns next to `x`, so the weighted sum of all columns is the interpolation between those two,
   a column outside the range counting as zero. In two dimensions the sums give the four-corner interpolation. -/
module

public import Mathlib.Data.EReal.Inv
public import Mathlib.Algebra.Order.Floor.Ring
public import Mathlib.Algebra.BigOperators.Fin

@[expose] public section

noncomputable section

namespace Cert.Hat

/-- The weight of column `k` at `x`. -/
def hat (x k : ℝ) : ℝ := max 0 (1 - |x - k|)

theorem hat_nonneg (x k : ℝ) : 0 ≤ hat x k := le_max_left _ _

/-- Column `i` of `n`, zero outside the range. -/
def at0 {n : ℕ} (v : Fin n → EReal) (i : ℤ) : EReal := if h : 0 ≤ i ∧ i < n then v ⟨i.toNat, by omega⟩ else 0

theorem at0_of {n : ℕ} (v : Fin n → EReal) (i : ℤ) (k : Fin n) (h : i = k.val) : at0 v i = v k := by
  unfold at0
  rw [dif_pos (by omega)]
  congr 1
  apply Fin.ext
  show i.toNat = k.val
  omega

theorem at0_out {n : ℕ} (v : Fin n → EReal) (i : ℤ) (h : ¬(0 ≤ i ∧ i < n)) : at0 v i = 0 := dif_neg h

/-- The weight is nonzero only at the two neighbours. -/
theorem hat_eq (x : ℝ) (k : ℤ) : hat x k = if k = ⌊x⌋ then 1 - (x - ⌊x⌋) else if k = ⌊x⌋ + 1 then x - ⌊x⌋ else 0 := by
  have h0 := Int.floor_le x
  have h1 := Int.lt_floor_add_one x
  unfold hat
  split_ifs with a b
  · subst a
    rw [abs_of_nonneg (by linarith), max_eq_right (by linarith)]
  · subst b
    push_cast
    rw [abs_of_nonpos (by linarith), max_eq_right (by linarith)]
    ring
  · apply max_eq_left
    rcases lt_or_gt_of_ne a with c | c
    · have : (k : ℝ) ≤ ⌊x⌋ - 1 := by exact_mod_cast (by omega : k ≤ ⌊x⌋ - 1)
      rw [abs_of_nonneg (by linarith)]; linarith
    · have : (⌊x⌋ : ℝ) + 2 ≤ k := by exact_mod_cast (by omega : ⌊x⌋ + 2 ≤ k)
      rw [abs_of_nonpos (by linarith)]; linarith

/-- A sum with one column picked. -/
theorem sum_pick {n : ℕ} (v : Fin n → EReal) (i : ℤ) (a : EReal) :
    ∑ k : Fin n, (if (k.val : ℤ) = i then a * v k else 0) = a * at0 v i := by
  by_cases h : 0 ≤ i ∧ i < n
  · have e : ∀ k : Fin n, ((k.val : ℤ) = i) = (k = ⟨i.toNat, by omega⟩) := fun k => by
      rw [eq_iff_iff, Fin.ext_iff]; show _ ↔ k.val = i.toNat; omega
    simp only [e, Finset.sum_ite_eq', Finset.mem_univ, if_true]
    unfold at0
    rw [dif_pos h]
  · rw [at0_out v i h, mul_zero]
    exact Finset.sum_eq_zero fun k _ => if_neg (by have := k.isLt; omega)

/-- The weighted sum of all columns is the interpolation between two. -/
theorem sum_hat {n : ℕ} (x : ℝ) (v : Fin n → EReal) :
    ∑ k : Fin n, ((hat x (k.val : ℝ) : ℝ) : EReal) * v k
      = ((1 - (x - ⌊x⌋) : ℝ) : EReal) * at0 v ⌊x⌋ + ((x - ⌊x⌋ : ℝ) : EReal) * at0 v (⌊x⌋ + 1) := by
  rw [← sum_pick, ← sum_pick, ← Finset.sum_add_distrib]
  refine Finset.sum_congr rfl fun k _ => ?_
  have h := hat_eq x (k.val : ℤ)
  rw [Int.cast_natCast] at h
  rw [h]
  split_ifs with a b
  · omega
  · rw [add_zero]
  · rw [zero_add]
  · rw [EReal.coe_zero, zero_mul, add_zero]

/-- A column of interpolated columns. -/
theorem at0_comb {n : ℕ} (p q : EReal) (a b : Fin n → EReal) (i : ℤ) :
    at0 (fun k => p * a k + q * b k) i = p * at0 a i + q * at0 b i := by
  unfold at0
  split_ifs
  · rfl
  · rw [mul_zero, mul_zero, add_zero]

theorem distrib (p q r : ℝ) (hp : 0 ≤ p) (a b : EReal) :
    (p : EReal) * ((q : EReal) * a + (r : EReal) * b) = ((q : EReal) * (p : EReal)) * a + ((r : EReal) * (p : EReal)) * b := by
  have e : ∀ (u : ℝ) (c : EReal), (p : EReal) * ((u : EReal) * c) = ((u : EReal) * (p : EReal)) * c := fun u c =>
    (mul_assoc (p : EReal) (u : EReal) c).symm.trans (congrArg (· * c) (mul_comm (p : EReal) (u : EReal)))
  rw [EReal.left_distrib_of_nonneg_of_ne_top (EReal.coe_nonneg.mpr hp) (EReal.coe_ne_top p), e, e]

/-- The two sums, one after the other: rows weighted at `y`, then columns at `x`, give the four corners. -/
theorem sum_sum {R C : ℕ} (x y : ℝ) (v : Fin R → Fin C → EReal) :
    ∑ k : Fin C, ((hat x (k.val : ℝ) : ℝ) : EReal) * ∑ r : Fin R, ((hat y (r.val : ℝ) : ℝ) : EReal) * v r k
      = (((1 - (y - ⌊y⌋) : ℝ) : EReal) * ((1 - (x - ⌊x⌋) : ℝ) : EReal)) * at0 (fun k => at0 (fun r => v r k) ⌊y⌋) ⌊x⌋
        + (((1 - (y - ⌊y⌋) : ℝ) : EReal) * ((x - ⌊x⌋ : ℝ) : EReal)) * at0 (fun k => at0 (fun r => v r k) ⌊y⌋) (⌊x⌋ + 1)
        + (((y - ⌊y⌋ : ℝ) : EReal) * ((1 - (x - ⌊x⌋) : ℝ) : EReal)) * at0 (fun k => at0 (fun r => v r k) (⌊y⌋ + 1)) ⌊x⌋
        + (((y - ⌊y⌋ : ℝ) : EReal) * ((x - ⌊x⌋ : ℝ) : EReal)) * at0 (fun k => at0 (fun r => v r k) (⌊y⌋ + 1)) (⌊x⌋ + 1) := by
  have hx0 := Int.floor_le x
  have hx1 := Int.lt_floor_add_one x
  simp only [sum_hat y]
  rw [sum_hat x, at0_comb, at0_comb, distrib _ _ _ (by linarith), distrib _ _ _ (by linarith)]
  rw [add_assoc, add_assoc, add_assoc]
  congr 1
  rw [← add_assoc, ← add_assoc]
  congr 1
  exact add_comm _ _

/-- Corner `(i, j)` of a plane, zero outside it. -/
def corner {R C : ℕ} (v : Fin R → Fin C → EReal) (i j : ℤ) : EReal := at0 (fun k => at0 (fun r => v r k) i) j

theorem corner_out {R C : ℕ} (v : Fin R → Fin C → EReal) (i j : ℤ) (h : ¬((0 ≤ i ∧ i < R) ∧ (0 ≤ j ∧ j < C))) : corner v i j = 0 := by
  unfold corner
  by_cases hj : 0 ≤ j ∧ j < C
  · have hi : ¬(0 ≤ i ∧ i < R) := fun hi => h ⟨hi, hj⟩
    have e : (fun k : Fin C => at0 (fun r => v r k) i) = fun _ => 0 := funext fun k => at0_out _ i hi
    rw [e]
    unfold at0
    rw [dif_pos hj]
  · exact at0_out _ j hj

theorem corner_of {R C : ℕ} (v : Fin R → Fin C → EReal) (i j : ℤ) (r : Fin R) (k : Fin C) (hi : i = r.val) (hj : j = k.val) : corner v i j = v r k := by
  unfold corner
  rw [at0_of _ j k hj, at0_of _ i r hi]

/-- The interpolation of a plane at `(y, x)`, from its four corners. -/
def bilin {R C : ℕ} (v : Fin R → Fin C → EReal) (y x : ℝ) : EReal :=
  (((1 - (y - ⌊y⌋) : ℝ) : EReal) * ((1 - (x - ⌊x⌋) : ℝ) : EReal)) * corner v ⌊y⌋ ⌊x⌋
    + (((1 - (y - ⌊y⌋) : ℝ) : EReal) * ((x - ⌊x⌋ : ℝ) : EReal)) * corner v ⌊y⌋ (⌊x⌋ + 1)
    + (((y - ⌊y⌋ : ℝ) : EReal) * ((1 - (x - ⌊x⌋) : ℝ) : EReal)) * corner v (⌊y⌋ + 1) ⌊x⌋
    + (((y - ⌊y⌋ : ℝ) : EReal) * ((x - ⌊x⌋ : ℝ) : EReal)) * corner v (⌊y⌋ + 1) (⌊x⌋ + 1)

/-- Weighting a window of rows from row `o` on, at the point moved by `o`, interpolates the whole plane, provided every
    row of the plane that the point is next to lies in the window. -/
theorem window {R W C : ℕ} (x y : ℝ) (o : ℕ) (ho : o + W ≤ R) (v : Fin R → Fin C → EReal)
    (h : ∀ i : ℤ, i = ⌊y⌋ ∨ i = ⌊y⌋ + 1 → 0 ≤ i → i < R → (o : ℤ) ≤ i ∧ i < o + W) :
    ∑ k : Fin C, ((hat x (k.val : ℝ) : ℝ) : EReal) * ∑ r : Fin W, ((hat (y - o) (r.val : ℝ) : ℝ) : EReal) * v ⟨o + r.val, by omega⟩ k
      = bilin v y x := by
  have hf : ⌊y - o⌋ = ⌊y⌋ - o := Int.floor_sub_natCast y o
  have hr : y - o - ((⌊y⌋ - o : ℤ) : ℝ) = y - ⌊y⌋ := by push_cast; ring
  have row : ∀ (i : ℤ) (k : Fin C), i = ⌊y⌋ ∨ i = ⌊y⌋ + 1 → at0 (fun r : Fin W => v ⟨o + r.val, by omega⟩ k) (i - o) = at0 (fun r => v r k) i := by
    intro i k hi
    by_cases hb : 0 ≤ i ∧ i < R
    · have := h i hi hb.1 hb.2
      rw [at0_of _ (i - o) ⟨(i - o).toNat, by omega⟩ (by show _ = (((i - o).toNat : ℕ) : ℤ); omega), at0_of _ i ⟨i.toNat, by omega⟩ (by show _ = ((i.toNat : ℕ) : ℤ); omega)]
      congr 1
      apply Fin.ext
      show o + (i - o).toNat = i.toNat
      omega
    · rw [at0_out _ i hb, at0_out _ _ (by omega)]
  rw [sum_sum (v := fun r k => v ⟨o + r.val, by omega⟩ k), hf, hr]
  have e0 : ∀ k : Fin C, at0 (fun r : Fin W => v ⟨o + r.val, by omega⟩ k) (⌊y⌋ - o) = at0 (fun r => v r k) ⌊y⌋ := fun k => row _ k (.inl rfl)
  have e1 : ∀ k : Fin C, at0 (fun r : Fin W => v ⟨o + r.val, by omega⟩ k) (⌊y⌋ - o + 1) = at0 (fun r => v r k) (⌊y⌋ + 1) := fun k => by
    rw [← row _ k (.inr rfl)]; congr 1; ring
  simp only [e0, e1]
  rfl

/-- Sample `t` of the 28 between `lo` and `hi`, each in the middle of its share, in coordinates of pixel centres. -/
def pt (lo hi : ℝ) (t : ℕ) : ℝ := lo + ((t : ℝ) + 1 / 2) * (hi - lo) / 28 - 1 / 2

end Cert.Hat
-- ==== Proof.CropPoint.lean ====
/- The samples of a box whose ends may be infinite. An infinite sample has no weight in any row or column, and no corner
   in the mask, so its interpolation is zero. -/
module

public import proofs.«01_k».proof.Proof.CropHat

@[expose] public section

noncomputable section

namespace Cert.Hat

/-- Sample `t` between two ends. -/
def ptE (lo hi : EReal) (t : ℕ) : EReal := lo + (((t : ℝ) + 1 / 2 : ℝ) : EReal) * ((hi - lo) * ((28⁻¹ : ℝ) : EReal)) - ((1 / 2 : ℝ) : EReal)

/-- Of two real ends it is the real sample. -/
theorem ptE_coe (l h : ℝ) (t : ℕ) : ptE (l : EReal) (h : EReal) t = ((pt l h t : ℝ) : EReal) := by
  rw [show pt l h t = l + ((t : ℝ) + 1 / 2) * ((h - l) * 28⁻¹) - 1 / 2 by unfold pt; ring]
  rfl

/-- A sample that is real has real ends. -/
theorem ptE_real (lo hi : EReal) (t : ℕ) (h : ¬(ptE lo hi t = ⊤ ∨ ptE lo hi t = ⊥)) : ∃ l h : ℝ, lo = l ∧ hi = h := by
  have hc : (0 : ℝ) < (t : ℝ) + 1 / 2 := by positivity
  have hd : (0 : ℝ) < 28⁻¹ := by norm_num
  induction lo using EReal.rec with
  | bot =>
    refine absurd (.inr ?_) h
    unfold ptE
    rw [EReal.bot_add, EReal.bot_sub]
  | top =>
    refine absurd ?_ h
    unfold ptE
    generalize (((t : ℝ) + 1 / 2 : ℝ) : EReal) * ((hi - ⊤) * ((28⁻¹ : ℝ) : EReal)) = z
    induction z using EReal.rec with
    | bot => right; rw [EReal.add_bot, EReal.bot_sub]
    | top => left; rw [EReal.top_add_top, EReal.top_sub_coe]
    | coe z => left; rw [EReal.top_add_coe, EReal.top_sub_coe]
  | coe l =>
    induction hi using EReal.rec with
    | bot =>
      refine absurd (.inr ?_) h
      unfold ptE
      rw [EReal.bot_sub, EReal.bot_mul_coe_of_pos hd, EReal.coe_mul_bot_of_pos hc, EReal.add_bot, EReal.bot_sub]
    | top =>
      refine absurd (.inl ?_) h
      unfold ptE
      rw [EReal.top_sub_coe, EReal.top_mul_coe_of_pos hd, EReal.coe_mul_top_of_pos hc, EReal.coe_add_top, EReal.top_sub_coe]
    | coe u => exact ⟨l, u, rfl, rfl⟩

/-- The weight of column `k` at a point. -/
def hatE (X : EReal) (k : ℝ) : EReal := max 0 (1 - max (X - (k : EReal)) (-(X - (k : EReal))))

theorem coe_max (a b : ℝ) : max (a : EReal) (b : EReal) = ((max a b : ℝ) : EReal) := (EReal.coe_strictMono.monotone.map_max).symm

theorem hatE_coe (x k : ℝ) : hatE (x : EReal) k = ((hat x k : ℝ) : EReal) := by
  unfold hatE hat
  rw [← EReal.coe_sub, ← EReal.coe_neg, coe_max, ← EReal.coe_one, ← EReal.coe_sub, ← EReal.coe_zero, coe_max]
  rfl

theorem hatE_inf (X : EReal) (k : ℝ) (h : X = ⊤ ∨ X = ⊥) : hatE X k = 0 := by
  unfold hatE
  rcases h with rfl | rfl
  · rw [EReal.top_sub_coe, max_eq_left le_top, EReal.sub_top _, max_eq_left bot_le]
  · rw [EReal.bot_sub, EReal.neg_bot, max_eq_right bot_le, EReal.sub_top _, max_eq_left bot_le]

theorem hatE_fin (X : EReal) (k : ℝ) : hatE X k ≠ ⊤ ∧ hatE X k ≠ ⊥ := by
  by_cases h : X = ⊤ ∨ X = ⊥
  · rw [hatE_inf X k h]; exact ⟨EReal.zero_ne_top, EReal.zero_ne_bot⟩
  · rw [not_or] at h
    lift X to ℝ using h
    rw [hatE_coe]; exact ⟨EReal.coe_ne_top _, EReal.coe_ne_bot _⟩

open Classical in
/-- The interpolation of a plane at a point. -/
def bilinE {R C : ℕ} (v : Fin R → Fin C → EReal) (Y X : EReal) : EReal :=
  if (Y = ⊤ ∨ Y = ⊥) ∨ (X = ⊤ ∨ X = ⊥) then 0 else bilin v Y.toReal X.toReal

theorem bilinE_coe {R C : ℕ} (v : Fin R → Fin C → EReal) (y x : ℝ) : bilinE v (y : EReal) (x : EReal) = bilin v y x := by
  unfold bilinE
  rw [if_neg (by simp), EReal.toReal_coe, EReal.toReal_coe]

theorem bilinE_inf {R C : ℕ} (v : Fin R → Fin C → EReal) (Y X : EReal) (h : (Y = ⊤ ∨ Y = ⊥) ∨ (X = ⊤ ∨ X = ⊥)) : bilinE v Y X = 0 := if_pos h

/-- `window` at any point. -/
theorem windowE {R W C : ℕ} (X Y : EReal) (o : ℕ) (ho : o + W ≤ R) (v : Fin R → Fin C → EReal)
    (h : ∀ y : ℝ, Y = y → ∀ i : ℤ, i = ⌊y⌋ ∨ i = ⌊y⌋ + 1 → 0 ≤ i → i < R → (o : ℤ) ≤ i ∧ i < o + W) :
    ∑ k : Fin C, hatE X (k.val : ℝ) * ∑ r : Fin W, hatE (Y - ((o : ℝ) : EReal)) (r.val : ℝ) * v ⟨o + r.val, by omega⟩ k = bilinE v Y X := by
  by_cases hX : X = ⊤ ∨ X = ⊥
  · rw [bilinE_inf v Y X (.inr hX)]
    exact Finset.sum_eq_zero fun k _ => by rw [hatE_inf X _ hX, zero_mul]
  by_cases hY : Y = ⊤ ∨ Y = ⊥
  · rw [bilinE_inf v Y X (.inl hY)]
    have hY' : Y - ((o : ℝ) : EReal) = ⊤ ∨ Y - ((o : ℝ) : EReal) = ⊥ := by
      rcases hY with rfl | rfl
      · left; exact EReal.top_sub_coe _
      · right; exact EReal.bot_sub _
    refine Finset.sum_eq_zero fun k _ => ?_
    rw [Finset.sum_eq_zero fun r _ => by rw [hatE_inf _ _ hY', zero_mul], mul_zero]
  rw [not_or] at hX hY
  lift X to ℝ using hX
  lift Y to ℝ using hY
  rw [bilinE_coe, ← EReal.coe_sub]
  simp only [hatE_coe]
  exact window X Y o ho v (h Y rfl)

end Cert.Hat
-- ==== Proof.CropStep.lean ====
/- One step of the crop call over the extended reals: the two arrays of weights, and the entry of the crop as the weighted
   sum over the window. -/
module

public import proofs.«01_k».proof.Proof.CropIdealFrame
public import proofs.«01_k».proof.Proof.CropPoint
public import Idealize.ShloMosaic.Lib.Pointwise
public import Idealize.ShloMosaic.Lib.Pipeline.ValueKit

@[expose] public section

set_option maxRecDepth 16384

noncomputable section

namespace Cert.CropIdeal.Own

open Cert.CropIdeal.Gen
open Idealize.ShloMosaic Idealize.ShloMosaic.TcCoe
open Cert.Hat (hatE ptE)

/-- `0.5`. -/
theorem half : Ideal.ofBits .f32 0x3F000000#32 = ((1 / 2 : ℝ) : EReal) := by
  simp [Ideal.ofBits, Ideal.ieee, -EReal.coe_mul]; norm_num

/-- The named constant. -/
theorem inv28 : Named.named (F := Ideal) κ "inv28" (φ := .f32) 0x3D124925#32 = ((28⁻¹ : ℝ) : EReal) :=
  IdealRules.named_const.ideal_named_scalar κ "inv28" _ _ rfl

/-- A small number read back from a word. -/
theorem word_real (n : ℕ) (h : n < 2 ^ 31) : FloatOps.sitofp (F := Ideal) .f32 (BitVec.ofNat 32 n) = ((n : ℝ) : EReal) := by
  show (((BitVec.ofNat 32 n).toInt : ℝ) : EReal) = _
  rw [WordCmp.toInt_ofNat_of_lt (by omega), Int.cast_natCast]

/-- The columns' weights. -/
theorem pay7_at (x1 x2 : EReal) (t : Fin 28) (k : Fin 800) :
    (k0_pay7 (F := Ideal) x1 x2) (ix2 t k) = hatE (ptE x1 x2 t.val) (k.val : ℝ) := by
  unfold k0_pay7
  pointwise [inv28, half]
  rw [word_real _ (by omega), word_real _ (by omega)]
  rfl

/-- The rows' weights, in a window from row `o`. -/
theorem pay6_at (y1 y2 o : EReal) (t : Fin 28) (k : Fin 512) :
    (k0_pay6 (F := Ideal) y1 y2 o k0_pay5) (ix2 t k) = hatE (ptE y1 y2 t.val - o) (k.val : ℝ) := by
  unfold k0_pay6 k0_pay5
  pointwise [inv28, half]
  rw [word_real _ (by omega), word_real _ (by omega)]
  rfl

/-- The first row of the window as a number. -/
theorem pay4_eq (y : EReal) : k0_pay4 (F := Ideal) y = (((topW (Ideal.fptosi 32 (Ideal.liftRound Int.floor y))).toNat : ℝ) : EReal) := by
  have h := topW_le (Ideal.fptosi 32 (Ideal.liftRound Int.floor y))
  have e : k0_pay4 (F := Ideal) y = (((topW (Ideal.fptosi 32 (Ideal.liftRound Int.floor y))).toInt : ℝ) : EReal) := rfl
  rw [e, WordCmp.toInt_eq_toNat_of_lt_half (by omega), Int.cast_natCast]

/-- One entry of the crop. -/
theorem pay1_at (wy : FVec Ideal S28x512 .f32) (wx : FVec Ideal S28x800 .f32) (p : Vec Ideal S1x512x800 .f32) (i j : Fin 28)
    (hy : ∀ k : Fin 512, wy (ix2 j k) ≠ ⊤ ∧ wy (ix2 j k) ≠ ⊥) :
    (k0_pay1 (F := Ideal) wy wx p : S1x28x28.Idx → EReal) (ix3 0 i j)
      = if ((1 / 2 : ℝ) : EReal) ≤ ∑ x : Fin 800, wx (ix2 i x) * ∑ k : Fin 512, wy (ix2 j k) * (p : S1x512x800.Idx → EReal) (ix3 0 k x) then 1 else 0 := by
  unfold k0_pay1
  pointwise [half]
  have z : ∀ x : Fin 800, ∑ k : Fin 512, (wy (ix2 j k) - wy (ix2 j k)) * (p : S1x512x800.Idx → EReal) (ix3 0 k x) = 0 := fun x =>
    Finset.sum_eq_zero fun k _ => by
      rw [EReal.sub_self (hy k).1 (hy k).2, zero_mul]
  simp only [z, add_zero]

end Cert.CropIdeal.Own
-- ==== Proof.CropWords.lean ====
/- The integers of the crop: a coordinate's floor as a machine word, the window's first row from a box's top, and which
   rows of the mask a sample of the box is next to. -/
module

public import proofs.«01_k».proof.Proof.CropHat
public import Idealize.ShloMosaic.PureOps.Ideal
public import Idealize.ShloMosaic.Lib.WordCmp

@[expose] public section

noncomputable section

namespace Cert.Hat

open Idealize.ShloMosaic

/-- The word of a coordinate's floor. -/
theorem floor_word (r : ℝ) (h0 : -1000 ≤ r) (h1 : r ≤ 2000) : Ideal.fptosi 32 (Ideal.liftRound Int.floor (r : EReal)) = BitVec.ofInt 32 ⌊r⌋ := by
  have a0 : -1000 ≤ ⌊r⌋ := by rw [Int.le_floor]; exact_mod_cast h0
  have a1 : ⌊r⌋ ≤ 2000 := by exact_mod_cast (Int.floor_le r).trans h1
  have e : Ideal.toIntClamped (-(2 ^ (32 - 1) : Nat)) ((2 ^ (32 - 1) : Nat) - 1) (((⌊r⌋ : ℤ) : ℝ) : EReal) = ⌊r⌋ := by
    rw [Ideal.toIntClamped_coe, Int.floor_intCast, Int.ceil_intCast, ite_self]
    norm_num
    omega
  exact congrArg (BitVec.ofInt 32) e

theorem toInt_small (i : ℤ) (h0 : -1000 ≤ i) (h1 : i ≤ 2001) : (BitVec.ofInt 32 i).toInt = i := by
  rw [BitVec.toInt_ofInt]
  exact Int.bmod_eq_of_le (by norm_num; omega) (by norm_num; omega)

/-- The next word is the next integer's. -/
theorem word_succ (i : ℤ) : IntOp.addi (BitVec.ofInt 32 i) 1#32 = BitVec.ofInt 32 (i + 1) := by
  show BitVec.ofInt 32 i + 1#32 = _
  rw [BitVec.ofInt_add]
  rfl

/-- A sample lies within the box's side. -/
theorem pt_ge (lo hi : ℝ) (h : lo ≤ hi) (t : ℕ) : lo - 1 / 2 ≤ pt lo hi t := by
  unfold pt
  have : 0 ≤ ((t : ℝ) + 1 / 2) * (hi - lo) / 28 := by
    have := (Nat.cast_nonneg t : (0 : ℝ) ≤ t)
    have : 0 ≤ hi - lo := by linarith
    positivity
  linarith
theorem pt_le (lo hi : ℝ) (h : lo ≤ hi) (t : ℕ) (ht : t < 28) : pt lo hi t ≤ lo + (hi - lo) * (55 / 56) - 1 / 2 := by
  unfold pt
  have h1 : (t : ℝ) ≤ 27 := by exact_mod_cast (by omega : t ≤ 27)
  have : ((t : ℝ) + 1 / 2) * (hi - lo) ≤ (55 / 2) * (hi - lo) := mul_le_mul_of_nonneg_right (by linarith) (by linarith)
  linarith

/-- The rows next to a sample lie in the window: it starts at the top's row less one, kept between 0 and 288 and rounded
    down to a multiple of eight, and has 512 rows. A box that far outside that its top is no word has no row in the mask. -/
theorem rows_in (lo hi : ℝ) (h1 : lo ≤ hi) (h2 : hi - lo ≤ 511) (t : ℕ) (ht : t < 28) (o : ℕ)
    (ho : -1000 ≤ ⌊lo⌋ → ⌊lo⌋ < 2000 → o = min 288 (⌊lo⌋ - 1).toNat / 8 * 8) (i : ℤ) (hi' : i = ⌊pt lo hi t⌋ ∨ i = ⌊pt lo hi t⌋ + 1) (hi0 : 0 ≤ i) (hi1 : i < (800 : ℕ)) :
    (o : ℤ) ≤ i ∧ i < o + (512 : ℕ) := by
  have a := pt_ge lo hi h1 t
  have b := pt_le lo hi h1 t ht
  have f1 := Int.floor_le lo
  have f2 := Int.lt_floor_add_one lo
  have g0 : ⌊lo⌋ - 1 ≤ ⌊pt lo hi t⌋ := by
    rw [Int.le_floor]; push_cast; linarith
  have g1 : ⌊pt lo hi t⌋ < ⌊lo⌋ + 503 := by
    rw [Int.floor_lt]; push_cast; linarith
  have := ho (by omega) (by omega)
  omega

/-! ## Words that name a row or a column -/

/-- A word names an integer where the two are equal, and where neither is a row of the mask. -/
def Names (w : BitVec 32) (p : ℤ) : Prop := w.toInt = p ∨ (¬(0 ≤ w.toInt ∧ w.toInt < 800) ∧ ¬(0 ≤ p ∧ p < 800))

/-- The two neighbours of a point, as integers. -/
def lowOf (Y : EReal) : ℤ := if Y = ⊤ ∨ Y = ⊥ then -1 else ⌊Y.toReal⌋
def highOf (Y : EReal) : ℤ := if Y = ⊤ ∨ Y = ⊥ then -1 else ⌊Y.toReal⌋ + 1

theorem out_names (w : BitVec 32) (p : ℤ) (h : ¬(0 ≤ w.toInt ∧ w.toInt < 800)) (h' : ¬(0 ≤ p ∧ p < 800)) : Names w p := .inr ⟨h, h'⟩

/-- The words of a point name its neighbours. -/
theorem names (Y : EReal) : Names (Ideal.fptosi 32 (Ideal.liftRound Int.floor Y)) (lowOf Y)
    ∧ Names (IntOp.addi (Ideal.fptosi 32 (Ideal.liftRound Int.floor Y)) 1#32) (highOf Y) := by
  unfold lowOf highOf
  induction Y using EReal.rec with
  | bot =>
    rw [if_pos (.inr rfl), if_pos (.inr rfl)]
    have e : Ideal.fptosi 32 (Ideal.liftRound Int.floor ⊥) = BitVec.ofInt 32 (-2147483648) := rfl
    rw [e]
    exact ⟨out_names _ _ (by decide) (by decide), out_names _ _ (by decide) (by decide)⟩
  | top =>
    rw [if_pos (.inl rfl), if_pos (.inl rfl)]
    have e : Ideal.fptosi 32 (Ideal.liftRound Int.floor ⊤) = BitVec.ofInt 32 2147483647 := rfl
    rw [e]
    exact ⟨out_names _ _ (by decide) (by decide), out_names _ _ (by decide) (by decide)⟩
  | coe r =>
    have hn : ¬((r : EReal) = ⊤ ∨ (r : EReal) = ⊥) := by
      rintro (h | h)
      · exact EReal.coe_ne_top r h
      · exact EReal.coe_ne_bot r h
    rw [if_neg hn, if_neg hn, EReal.toReal_coe]
    by_cases h : -1000 ≤ r ∧ r ≤ 2000
    · have a0 : -1000 ≤ ⌊r⌋ := by rw [Int.le_floor]; exact_mod_cast h.1
      have a1 : ⌊r⌋ ≤ 2000 := by exact_mod_cast (Int.floor_le r).trans h.2
      rw [floor_word r h.1 h.2, word_succ]
      exact ⟨.inl (toInt_small _ a0 (by omega)), .inl (toInt_small _ (by omega) (by omega))⟩
    · have e : Ideal.fptosi 32 (Ideal.liftRound Int.floor (r : EReal)) = BitVec.ofInt 32 (max (-2147483648) (min 2147483647 ⌊r⌋)) := by
        refine congrArg (BitVec.ofInt 32) ?_
        rw [Ideal.liftRound_coe, Ideal.toIntClamped_coe, Int.floor_intCast, Int.ceil_intCast, ite_self]
        norm_num
      have f : ⌊r⌋ < -1000 ∨ 2000 ≤ ⌊r⌋ := by
        rw [not_and_or, not_le, not_le] at h
        rcases h with h | h
        · left; rw [Int.floor_lt]; exact_mod_cast h
        · right; rw [Int.le_floor]; exact_mod_cast h.le
      rw [e]
      generalize hz : max (-2147483648) (min 2147483647 ⌊r⌋) = z
      have z0 : -2147483648 ≤ z ∧ z ≤ 2147483647 := by omega
      have t0 : (BitVec.ofInt 32 z).toInt = z := by
        rw [BitVec.toInt_ofInt]
        exact Int.bmod_eq_of_le (by norm_num; omega) (by norm_num; omega)
      have z1 : ¬(0 ≤ z ∧ z < 800) := by omega
      refine ⟨out_names _ _ (by rw [t0]; exact z1) (by omega), out_names _ _ ?_ (by omega)⟩
      rw [word_succ]
      by_cases hm : z = 2147483647
      · rw [hm]; decide
      · rw [BitVec.toInt_ofInt, Int.bmod_eq_of_le (by norm_num; omega) (by norm_num; omega)]
        omega

end Cert.Hat
-- ==== Proof.CropRef.lean ====
module

public import proofs.«01_k».proof.Proof.Gen.CropReferenceIdeal
public import proofs.«01_k».proof.Proof.CropWords
public import proofs.«01_k».proof.Proof.CropPoint
public import Idealize.ShloMosaic.Lib.Pointwise
public import Idealize.ShloMosaic.Lib.WordCmp

/-!
  The reference crop as a term over its two arguments, and read at one entry: the four-corner interpolation of the mask
  at the sample's point, compared with one half.
-/

@[expose] public section

set_option maxRecDepth 16384

noncomputable section

namespace Cert.CropReferenceIdeal.Own

open Cert.CropReferenceIdeal.Gen
open Idealize.ShloMosaic Idealize.ShloMosaic.TcCoe
open Cert.Hat

/-! ## The terms -/

/-- The 28 sample offsets, `t + 0.5`. -/
def offs : FVec Ideal S28 .f32 := addf (sitofp .f32 (iotaInDim S28 32 0)) (broadcastInDim S28 ![] bcast_S_S28 (constant S_ .f32 0x3F000000#32))

/-- The samples between two ends. -/
def pts (lo hi : FVec Ideal S4x16 .f32) : FVec Ideal S4x16x28 .f32 :=
  subf (addf (broadcastInDim S4x16x28 ![0, 1, 2] bcast_S4x16x1_S4x16x28_0_1_2 (broadcastInDim S4x16x1 ![0, 1] bcast_S4x16_S4x16x1_0_1 lo))
      (Host.divf (mulf (broadcastInDim S4x16x28 ![0, 1, 2] bcast_S1x1x28_S4x16x28_0_1_2 (broadcastInDim S1x1x28 ![1, 2] bcast_S1x28_S1x1x28_1_2 (broadcastInDim S1x28 ![1] bcast_S28_S1x28_1 (id offs))))
          (broadcastInDim S4x16x28 ![0, 1, 2] bcast_S4x16x1_S4x16x28_0_1_2 (broadcastInDim S4x16x1 ![0, 1] bcast_S4x16_S4x16x1_0_1 (subf hi lo))))
        (broadcastInDim S4x16x28 ![] bcast_S_S4x16x28 (constant S_ .f32 0x41E00000#32))))
    (broadcastInDim S4x16x28 ![] bcast_S_S4x16x28 (constant S_ .f32 0x3F000000#32))

/-- The boxes' four coordinates. -/
def cx1 (G : FVec Ideal S4x16x4 .f32) : FVec Ideal S4x16 .f32 := shapeCast S4x16 (extractStridedSlice S4x16x1 ![0, 0, 0] G slices_S4x16x4_S4x16x1_0_0_0) shapeCasts_S4x16x1_S4x16
def cy1 (G : FVec Ideal S4x16x4 .f32) : FVec Ideal S4x16 .f32 := shapeCast S4x16 (extractStridedSlice S4x16x1 ![0, 0, 1] G slices_S4x16x4_S4x16x1_0_0_1) shapeCasts_S4x16x1_S4x16
def cx2 (G : FVec Ideal S4x16x4 .f32) : FVec Ideal S4x16 .f32 := shapeCast S4x16 (extractStridedSlice S4x16x1 ![0, 0, 2] G slices_S4x16x4_S4x16x1_0_0_2) shapeCasts_S4x16x1_S4x16
def cy2 (G : FVec Ideal S4x16x4 .f32) : FVec Ideal S4x16 .f32 := shapeCast S4x16 (extractStridedSlice S4x16x1 ![0, 0, 3] G slices_S4x16x4_S4x16x1_0_0_3) shapeCasts_S4x16x1_S4x16

/-- The samples' coordinates on the 28 x 28 grid. -/
def gridY (G : FVec Ideal S4x16x4 .f32) : FVec Ideal S4x16x28x28 .f32 := broadcastInDim S4x16x28x28 ![0, 1, 2] bcast_S4x16x28_S4x16x28x28_0_1_2 (pts (cy1 G) (cy2 G))
def gridX (G : FVec Ideal S4x16x4 .f32) : FVec Ideal S4x16x28x28 .f32 := broadcastInDim S4x16x28x28 ![0, 1, 3] bcast_S4x16x28_S4x16x28x28_0_1_3 (pts (cx1 G) (cx2 G))

/-- A coordinate's part above its floor, and what is left to the next. -/
def fr (Y : FVec Ideal S4x16x28x28 .f32) : FVec Ideal S4x16x28x28 .f32 := subf Y (Host.floor Y)
def co (Y : FVec Ideal S4x16x28x28 .f32) : FVec Ideal S4x16x28x28 .f32 := subf (broadcastInDim S4x16x28x28 ![] bcast_S_S4x16x28x28 (constant S_ .f32 0x3F800000#32)) (fr Y)
/-- The neighbour below as a word, and the one above. -/
def w0 (Y : FVec Ideal S4x16x28x28 .f32) : IVec S4x16x28x28 32 := fptosi 32 (Host.floor Y)
def w1 (Y : FVec Ideal S4x16x28x28 .f32) : IVec S4x16x28x28 32 := addi (w0 Y) (broadcastInDim S4x16x28x28 ![] bcast_S_S4x16x28x28 (constantI S_ 32 1#32))
/-- Whether a neighbour is in the mask. -/
def ok (w : IVec S4x16x28x28 32) : IVec S4x16x28x28 1 :=
  andi (cmpi .sge w (broadcastInDim S4x16x28x28 ![] bcast_S_S4x16x28x28 (constantI S_ 32 0#32)))
    (cmpi .slt w (broadcastInDim S4x16x28x28 ![] bcast_S_S4x16x28x28 (constantI S_ 32 800#32)))
/-- A negative word counted from the end. -/
def wrap (w : IVec S4x16x28x28 32) : IVec S4x16x28x28 32 :=
  select (cmpi .slt w (broadcastInDim S4x16x28x28 ![] bcast_S_S4x16x28x28 (constantI S_ 32 0#32)))
    (addi w (broadcastInDim S4x16x28x28 ![] bcast_S_S4x16x28x28 (constantI S_ 32 800#32))) w
/-- Two words side by side. -/
def two (a b : IVec S4x16x28x28 32) : IVec S4x16x28x28x2 32 :=
  concatenate S4x16x28x28x2 4 [⟨S4x16x28x28x1, broadcastInDim S4x16x28x28x1 ![0, 1, 2, 3] bcast_S4x16x28x28_S4x16x28x28x1_0_1_2_3 a⟩,
    ⟨S4x16x28x28x1, broadcastInDim S4x16x28x28x1 ![0, 1, 2, 3] bcast_S4x16x28x28_S4x16x28x28x1_0_1_2_3 b⟩] concatenates_S4x16x28x28x1_S4x16x28x28x1_S4x16x28x28x2_d4
/-- The mask at two words, zero outside. -/
def take (X : FVec Ideal S4x16x800x800 .f32) (a b : IVec S4x16x28x28 32) : FVec Ideal S4x16x28x28 .f32 :=
  select (andi (ok a) (ok b)) (Host.gather gather_S4x16x800x800_S4x16x28x28x2_S4x16x28x28_n_23_01_01_23_4_1111 X (two (wrap a) (wrap b)))
    (broadcastInDim S4x16x28x28 ![1, 2, 3] bcast_S16x28x28_S4x16x28x28_1_2_3 (broadcastInDim S16x28x28 ![1, 2] bcast_S28x28_S16x28x28_1_2
      (broadcastInDim S28x28 ![] bcast_S_S28x28 (constant S_ .f32 0x00000000#32))))
/-- The interpolation of the masks at the coordinates `Y`, `C`. -/
def inter (X : FVec Ideal S4x16x800x800 .f32) (Y C : FVec Ideal S4x16x28x28 .f32) : FVec Ideal S4x16x28x28 .f32 :=
  addf (addf (addf (mulf (mulf (co Y) (co C)) (take X (w0 Y) (w0 C))) (mulf (mulf (co Y) (fr C)) (take X (w0 Y) (w1 C))))
    (mulf (mulf (fr Y) (co C)) (take X (w1 Y) (w0 C)))) (mulf (mulf (fr Y) (fr C)) (take X (w1 Y) (w1 C)))
/-- The reference's result. -/
def refCrop (X : FVec Ideal S4x16x800x800 .f32) (G : FVec Ideal S4x16x4 .f32) : FVec Ideal S64x28x28 .f32 :=
  transpose S64x28x28 [0, 2, 1] (shapeCast S64x28x28 (uitofp .f32 (cmpf .oge (inter X (gridY G) (gridX G))
    (broadcastInDim S4x16x28x28 ![] bcast_S_S4x16x28x28 (constant S_ .f32 0x3F000000#32)) : IVec S4x16x28x28 1) : FVec Ideal S4x16x28x28 .f32) shapeCasts_S4x16x28x28_S64x28x28)
    transposes_S64x28x28_S64x28x28_0_2_1

/-! ## Read at one entry -/

/-- `0.5` and `28.0`. -/
theorem half : Ideal.ofBits .f32 0x3F000000#32 = ((1 / 2 : ℝ) : EReal) := by
  simp [Ideal.ofBits, Ideal.ieee, -EReal.coe_mul]; norm_num
theorem twentyeight : Ideal.ofBits .f32 0x41E00000#32 = ((28 : ℝ) : EReal) := by
  simp [Ideal.ofBits, Ideal.ieee, -EReal.coe_mul]; norm_num

/-- A small number read back from a word. -/
theorem word_real (n : ℕ) (h : n < 2 ^ 31) : FloatOps.sitofp (F := Ideal) .f32 (BitVec.ofNat 32 n) = ((n : ℝ) : EReal) := by
  show (((BitVec.ofNat 32 n).toInt : ℝ) : EReal) = _
  rw [WordCmp.toInt_ofNat_of_lt (by omega), Int.cast_natCast]

theorem offs_at (t : Fin 28) : offs (ix1 t) = (((t.val : ℝ) + 1 / 2 : ℝ) : EReal) := by
  have e : offs (ix1 t) = FloatOps.sitofp (F := Ideal) .f32 (BitVec.ofNat 32 t.val) + ((1 / 2 : ℝ) : EReal) := by
    pointwise [offs, half]
  rw [e, word_real _ (by omega)]
  rfl

/-- Sample `t` of a side. -/
theorem pts_at (lo hi : FVec Ideal S4x16 .f32) (b : Fin 4) (g : Fin 16) (t : Fin 28) :
    pts lo hi (ix3 b g t) = ptE (lo (ix2 b g)) (hi (ix2 b g)) t.val := by
  have e : pts lo hi (ix3 b g t) = lo (ix2 b g) + Ideal.div (id offs (ix1 t) * (hi (ix2 b g) - lo (ix2 b g))) ((28 : ℝ) : EReal) - ((1 / 2 : ℝ) : EReal) := by
    pointwise [pts, half, twentyeight]
  rw [e, id, offs_at, Ideal.div_coe (by norm_num : (28 : ℝ) ≠ 0), one_div (28 : ℝ), mul_assoc]
  rfl

theorem coords (G : FVec Ideal S4x16x4 .f32) (b : Fin 4) (g : Fin 16) : cx1 G (ix2 b g) = G (ix3 b g 0) ∧ cy1 G (ix2 b g) = G (ix3 b g 1)
    ∧ cx2 G (ix2 b g) = G (ix3 b g 2) ∧ cy2 G (ix2 b g) = G (ix3 b g 3) := by
  refine ⟨?_, ?_, ?_, ?_⟩
  · pointwise [cx1]
  · pointwise [cy1]
  · pointwise [cx2]
  · pointwise [cy2]

/-- The look-up: entry `(b, g, i, j)` is the mask of box `(b, g)` at the row and column the two words name. -/
theorem gather_at {α : Type} (x : S4x16x800x800.Idx → α) (w : IVec S4x16x28x28x2 32) (b : Fin 4) (g : Fin 16) (i j : Fin 28) (p q : Fin 800)
    (hp : (w (ix5 b g i j 0)).toInt.toNat = p.val) (hq : (w (ix5 b g i j 1)).toInt.toNat = q.val) :
    Host.gather gather_S4x16x800x800_S4x16x28x28x2_S4x16x28x28_n_23_01_01_23_4_1111 x w (ix4 b g i j) = x (ix4 b g p q) := by
  unfold Host.gather
  congr 1
  funext a
  apply Fin.ext
  match a with
  | ⟨0, _⟩ =>
    have e : 0 + b.val + 0 = b.val := by omega
    exact e
  | ⟨1, _⟩ =>
    have e : 0 + g.val + 0 = g.val := by omega
    exact e
  | ⟨2, _⟩ =>
    have e : min p.val 799 + 0 + 0 = p.val := by have := p.isLt; omega
    refine Eq.trans ?_ e
    rw [← hp]
    refine congrArg (fun i => min (w i).toInt.toNat 799 + 0 + 0) (funext fun e => Fin.ext ?_)
    match e with
    | ⟨0, _⟩ => rfl
    | ⟨1, _⟩ => rfl
    | ⟨2, _⟩ => rfl
    | ⟨3, _⟩ => rfl
    | ⟨4, _⟩ => rfl
  | ⟨3, _⟩ =>
    have e : min q.val 799 + 0 + 0 = q.val := by have := q.isLt; omega
    refine Eq.trans ?_ e
    rw [← hq]
    refine congrArg (fun i => min (w i).toInt.toNat 799 + 0 + 0) (funext fun e => Fin.ext ?_)
    match e with
    | ⟨0, _⟩ => rfl
    | ⟨1, _⟩ => rfl
    | ⟨2, _⟩ => rfl
    | ⟨3, _⟩ => rfl
    | ⟨4, _⟩ => rfl

theorem two_0 (u v : IVec S4x16x28x28 32) (b : Fin 4) (g : Fin 16) (i j : Fin 28) : two u v (ix5 b g i j 0) = u (ix4 b g i j) := by
  pointwise [two]
theorem two_1 (u v : IVec S4x16x28x28 32) (b : Fin 4) (g : Fin 16) (i j : Fin 28) : two u v (ix5 b g i j 1) = v (ix4 b g i j) := by
  pointwise [two]

/-- Whether a word that names the integer `n` is in the mask. -/
theorem ok_at (w : IVec S4x16x28x28 32) (b : Fin 4) (g : Fin 16) (i j : Fin 28) (n : ℤ) (hn : (w (ix4 b g i j)).toInt = n) :
    ok w (ix4 b g i j) = BitVec.ofBool (decide (0 ≤ n ∧ n < 800)) := by
  pointwise [ok]
  rw [WordCmp.cmpi_sge_eq, WordCmp.cmpi_slt_eq, WordCmp.andi_ofBool, hn]
  congr 1
  rw [Bool.decide_and]
  rfl

/-- A word that names a nonnegative integer is not counted from the end. -/
theorem wrap_at (w : IVec S4x16x28x28 32) (b : Fin 4) (g : Fin 16) (i j : Fin 28) (h : 0 ≤ (w (ix4 b g i j)).toInt) :
    wrap w (ix4 b g i j) = w (ix4 b g i j) := by
  pointwise [wrap]
  rw [WordCmp.cmpi_slt_eq, decide_eq_false (by rw [not_lt]; exact h)]
  rfl

/-- The mask at two words is its corner there. -/
theorem take_at (X : FVec Ideal S4x16x800x800 .f32) (u v : IVec S4x16x28x28 32) (b : Fin 4) (g : Fin 16) (i j : Fin 28) (p q : ℤ)
    (hp : Names (u (ix4 b g i j)) p) (hq : Names (v (ix4 b g i j)) q) :
    take X u v (ix4 b g i j) = corner (fun (r k : Fin 800) => X (ix4 b g r k)) p q := by
  have e : take X u v (ix4 b g i j) = if IntOp.andi (ok u (ix4 b g i j)) (ok v (ix4 b g i j)) = 1#1
      then Host.gather gather_S4x16x800x800_S4x16x28x28x2_S4x16x28x28_n_23_01_01_23_4_1111 X (two (wrap u) (wrap v)) (ix4 b g i j) else 0 := by
    pointwise [take]
    rfl
  rw [e, ok_at u b g i j _ rfl, ok_at v b g i j _ rfl, WordCmp.andi_ofBool]
  simp only [WordCmp.ofBool_eq_one_iff, Bool.and_eq_true, decide_eq_true_eq]
  split_ifs with c
  · have hp' : (u (ix4 b g i j)).toInt = p := hp.resolve_right fun h => h.1 c.1
    have hq' : (v (ix4 b g i j)).toInt = q := hq.resolve_right fun h => h.1 c.2
    rw [hp', hq'] at c
    rw [gather_at X _ b g i j ⟨p.toNat, by omega⟩ ⟨q.toNat, by omega⟩
      (by rw [two_0, wrap_at _ _ _ _ _ (by omega), hp']) (by rw [two_1, wrap_at _ _ _ _ _ (by omega), hq'])]
    exact (corner_of (fun (r k : Fin 800) => X (ix4 b g r k)) p q ⟨p.toNat, by omega⟩ ⟨q.toNat, by omega⟩ (Int.toNat_of_nonneg c.1.1).symm (Int.toNat_of_nonneg c.2.1).symm).symm
  · refine (corner_out _ p q fun h => c ⟨?_, ?_⟩).symm
    · rcases hp with hp | hp
      · rw [hp]; exact h.1
      · exact absurd h.1 hp.2
    · rcases hq with hq | hq
      · rw [hq]; exact h.2
      · exact absurd h.2 hq.2

/-- The words of a coordinate name its neighbours. -/
theorem w0_names (Y : FVec Ideal S4x16x28x28 .f32) (b : Fin 4) (g : Fin 16) (i j : Fin 28) : Names (w0 Y (ix4 b g i j)) (lowOf (Y (ix4 b g i j))) :=
  (names (Y (ix4 b g i j))).1
theorem w1_names (Y : FVec Ideal S4x16x28x28 .f32) (b : Fin 4) (g : Fin 16) (i j : Fin 28) : Names (w1 Y (ix4 b g i j)) (highOf (Y (ix4 b g i j))) := by
  have e : w1 Y (ix4 b g i j) = IntOp.addi (w0 Y (ix4 b g i j)) 1#32 := by
    pointwise [w1]
  rw [e]
  exact (names (Y (ix4 b g i j))).2
theorem fr_at (Y : FVec Ideal S4x16x28x28 .f32) (b : Fin 4) (g : Fin 16) (i j : Fin 28) (y : ℝ) (h : Y (ix4 b g i j) = (y : EReal)) :
    fr Y (ix4 b g i j) = ((y - ⌊y⌋ : ℝ) : EReal) := by
  have e : fr Y (ix4 b g i j) = Y (ix4 b g i j) - Ideal.liftRound Int.floor (Y (ix4 b g i j)) := rfl
  rw [e, h]
  rfl
theorem co_at (Y : FVec Ideal S4x16x28x28 .f32) (b : Fin 4) (g : Fin 16) (i j : Fin 28) (y : ℝ) (h : Y (ix4 b g i j) = (y : EReal)) :
    co Y (ix4 b g i j) = ((1 - (y - ⌊y⌋) : ℝ) : EReal) := by
  have e : co Y (ix4 b g i j) = 1 - fr Y (ix4 b g i j) := by
    pointwise [co]
  rw [e, fr_at Y b g i j y h]
  rfl

theorem lowOf_coe (y : ℝ) : lowOf (y : EReal) = ⌊y⌋ := by
  unfold lowOf; rw [if_neg (by simp), EReal.toReal_coe]
theorem highOf_coe (y : ℝ) : highOf (y : EReal) = ⌊y⌋ + 1 := by
  unfold highOf; rw [if_neg (by simp), EReal.toReal_coe]

/-- The interpolation at one entry. -/
theorem inter_at (X : FVec Ideal S4x16x800x800 .f32) (Y C : FVec Ideal S4x16x28x28 .f32) (b : Fin 4) (g : Fin 16) (i j : Fin 28) :
    inter X Y C (ix4 b g i j) = bilinE (fun (r k : Fin 800) => X (ix4 b g r k)) (Y (ix4 b g i j)) (C (ix4 b g i j)) := by
  have e : inter X Y C (ix4 b g i j) = co Y (ix4 b g i j) * co C (ix4 b g i j) * take X (w0 Y) (w0 C) (ix4 b g i j)
      + co Y (ix4 b g i j) * fr C (ix4 b g i j) * take X (w0 Y) (w1 C) (ix4 b g i j)
      + fr Y (ix4 b g i j) * co C (ix4 b g i j) * take X (w1 Y) (w0 C) (ix4 b g i j)
      + fr Y (ix4 b g i j) * fr C (ix4 b g i j) * take X (w1 Y) (w1 C) (ix4 b g i j) := rfl
  have p0 := w0_names Y b g i j
  have p1 := w1_names Y b g i j
  have q0 := w0_names C b g i j
  have q1 := w1_names C b g i j
  rw [e, take_at X _ _ b g i j _ _ p0 q0, take_at X _ _ b g i j _ _ p0 q1, take_at X _ _ b g i j _ _ p1 q0, take_at X _ _ b g i j _ _ p1 q1]
  by_cases h : (Y (ix4 b g i j) = ⊤ ∨ Y (ix4 b g i j) = ⊥) ∨ (C (ix4 b g i j) = ⊤ ∨ C (ix4 b g i j) = ⊥)
  · rw [bilinE_inf _ _ _ h]
    rcases h with h | h
    · have a : lowOf (Y (ix4 b g i j)) = -1 := if_pos h
      have a' : highOf (Y (ix4 b g i j)) = -1 := if_pos h
      rw [a, a', corner_out _ (-1) _ (by omega), corner_out _ (-1) _ (by omega)]
      simp only [mul_zero, add_zero]
    · have a : lowOf (C (ix4 b g i j)) = -1 := if_pos h
      have a' : highOf (C (ix4 b g i j)) = -1 := if_pos h
      rw [a, a', corner_out _ _ (-1) (by omega), corner_out _ _ (-1) (by omega)]
      simp only [mul_zero, add_zero]
  · rw [not_or, not_or, not_or] at h
    obtain ⟨y, hy⟩ : ∃ y : ℝ, Y (ix4 b g i j) = (y : EReal) := ⟨_, (EReal.coe_toReal h.1.1 h.1.2).symm⟩
    obtain ⟨x, hx⟩ : ∃ x : ℝ, C (ix4 b g i j) = (x : EReal) := ⟨_, (EReal.coe_toReal h.2.1 h.2.2).symm⟩
    rw [fr_at Y b g i j y hy, fr_at C b g i j x hx, co_at Y b g i j y hy, co_at C b g i j x hx, hy, hx, bilinE_coe, lowOf_coe, highOf_coe, lowOf_coe, highOf_coe]
    rfl

theorem gridY_at (G : FVec Ideal S4x16x4 .f32) (b : Fin 4) (g : Fin 16) (i j : Fin 28) : gridY G (ix4 b g i j) = pts (cy1 G) (cy2 G) (ix3 b g i) := by
  pointwise [gridY]
theorem gridX_at (G : FVec Ideal S4x16x4 .f32) (b : Fin 4) (g : Fin 16) (i j : Fin 28) : gridX G (ix4 b g i j) = pts (cx1 G) (cx2 G) (ix3 b g j) := by
  pointwise [gridX]

/-- The result at one entry, its first index the sample across and its second the sample down. -/
theorem refCrop_at (X : FVec Ideal S4x16x800x800 .f32) (G : FVec Ideal S4x16x4 .f32) (b : Fin 4) (g : Fin 16) (i j : Fin 28) :
    refCrop X G (ix3 ⟨b.val * 16 + g.val, by omega⟩ i j)
      = if ((1 / 2 : ℝ) : EReal) ≤ bilinE (fun (r k : Fin 800) => X (ix4 b g r k)) (ptE (G (ix3 b g 1)) (G (ix3 b g 3)) j.val) (ptE (G (ix3 b g 0)) (G (ix3 b g 2)) i.val) then 1 else 0 := by
  obtain ⟨c0, c1, c2, c3⟩ := coords G b g
  have e' : refCrop X G (ix3 ⟨b.val * 16 + g.val, by omega⟩ i j)
      = FloatOps.uitofp (F := Ideal) .f32 (Ideal.cmp .oge (inter X (gridY G) (gridX G) (ix4 b g j i)) ((1 / 2 : ℝ) : EReal)) := by
    pointwise [refCrop, half]
  rw [e', inter_at, gridY_at, gridX_at, pts_at, pts_at, c0, c1, c2, c3]
  show ((((BitVec.ofBool (decide _)).toNat : ℕ) : ℝ) : EReal) = _
  split_ifs with c
  · rw [decide_eq_true c]; simp
  · rw [decide_eq_false c]; simp

end Cert.CropReferenceIdeal.Own
-- ==== Proof.CropValue.lean ====
/- The result of the crop call: step `16 b + g` writes the crop of mask `(b, g)`, and every entry of it is the four-corner
   interpolation of the mask at the sample's point, compared with one half. -/
module

public import proofs.«01_k».proof.Proof.CropStep
public import proofs.«01_k».proof.Proof.CropWords
public import proofs.«01_k».proof.Proof.CropRef
public import proofs.«01_k».proof.Proof.CropBoxes

@[expose] public section

set_option maxRecDepth 16384

noncomputable section

namespace Cert.CropIdeal.Own

open Cert.CropIdeal.Gen
open Idealize.ShloMosaic Idealize.ShloMosaic.TcCoe
open Idealize.ShloMosaic.Pipeline (Dat Window)
open Cert.Hat (hatE ptE ptE_real ptE_coe pt bilinE windowE floor_word rows_in)

/-! ## The window's first row -/

theorem clamps : ∀ n : Fin 3001, (Scalar.minsi 288#32 (Scalar.maxsi 0#32 (Scalar.subi (BitVec.ofInt 32 ((n.val : ℤ) - 1000)) 1#32))).toNat = min 288 ((n.val : ℤ) - 1000 - 1).toNat := by
  decide +kernel

/-- The first row, for a top near the mask. -/
theorem topW_real (y : ℝ) (h0 : -1000 ≤ ⌊y⌋) (h1 : ⌊y⌋ < 2000) :
    (topW (Ideal.fptosi 32 (Ideal.liftRound Int.floor (y : EReal)))).toNat = min 288 (⌊y⌋ - 1).toNat / 8 * 8 := by
  have a0 : -1000 ≤ y := by
    have : ((-1000 : ℤ) : ℝ) ≤ ⌊y⌋ := Int.cast_le.mpr h0
    push_cast at this
    exact this.trans (Int.floor_le y)
  have a1 : y ≤ 2000 := by
    have := Int.floor_lt.mp h1
    push_cast at this
    exact this.le
  rw [floor_word y a0 a1, topW_eq]
  have e : ⌊y⌋ = ((⟨(⌊y⌋ + 1000).toNat, by omega⟩ : Fin 3001).val : ℤ) - 1000 := by
    show ⌊y⌋ = (((⌊y⌋ + 1000).toNat : ℕ) : ℤ) - 1000
    omega
  rw [e, clamps]

/-! ## A step's window of its mask -/

/-- A leading unit axis dropped. -/
theorem drop_unit (k : Fin 512) (x : Fin 800) :
    Shape.reshapeEquiv squeezes_S1x512x800_S512x800.numel_eq (ix2 k x : S512x800.Idx) = (ix3 0 k x : S1x512x800.Idx) := by
  show shapeCast S512x800 (fun i : S1x512x800.Idx => i) squeezes_S1x512x800_S512x800.numel_eq (ix2 k x) = _
  pointwise []

/-- The window at one element. -/
theorem blk_at {c : Dev nD} (w : FVec Ideal S256 .f32) (X : HbBuf (F := Ideal) c poolM) (s : Fin 64) (o : ℕ) (ho : top (F := Ideal) w s = o) (k : Fin 512) (x : Fin 800) (h : o + k.val < 800) :
    (blk (F := Ideal) w X s : S1x512x800.Idx → EReal) (ix3 0 k x) = (X : S64x800x800.Idx → EReal) (ix3 s ⟨o + k.val, h⟩ x) := by
  unfold blk
  rw [← drop_unit k x, Equiv.symm_apply_apply]
  show (X : S64x800x800.Idx → EReal) ((Rect.unit (s := S64x800x800) ![s.val, top (F := Ideal) w s, 0] S1x512x800.size (inb_src w s)).emb
    (Shape.reshapeEquiv squeezes_S1x512x800_S512x800.numel_eq (ix2 k x : S512x800.Idx))) = _
  rw [drop_unit]
  refine congrArg _ (funext fun a => Fin.ext ?_)
  match a with
  | ⟨0, _⟩ => show s.val + 1 * 0 = s.val; omega
  | ⟨1, _⟩ => show top (F := Ideal) w s + 1 * k.val = o + k.val; omega
  | ⟨2, _⟩ => show 0 + 1 * x.val = x.val; omega

variable (m : (ℓ : Loc nD τ sig) → Buf (Elt Ideal) ℓ)

/-- The arguments, at the launch. -/
abbrev X0 (c : Dev nD) : FVec Ideal S4x16x800x800 .f32 := m ((c : Thread nD τ).loc main_arg0)
abbrev G0 (c : Dev nD) : FVec Ideal S4x16x4 .f32 := m ((c : Thread nD τ).loc main_arg1)

/-- The flattened masks at the region's entry. -/
theorem V_v0 (c : Dev nD) (b : Fin 4) (g : Fin 16) (r x : Fin 800) :
    (V m c main_v0 : S64x800x800.Idx → EReal) (ix3 ⟨b.val * 16 + g.val, by omega⟩ r x) = X0 m c (ix4 b g r x) := by
  entry_read
  pointwise []

/-- The flattened boxes. -/
theorem cor_eq (c : Dev nD) (b : Fin 4) (g : Fin 16) (r : Fin 4) :
    cor (F := Ideal) (x0 m c) ⟨b.val * 16 + g.val, by omega⟩ r = G0 m c (ix3 b g r) := by
  show (V m c main_v1 : S256.Idx → EReal) (ix1 ⟨(b.val * 16 + g.val) * 4 + r.val, by omega⟩) = _
  entry_read
  pointwise []

/-! ## A step's crop -/

set_option maxHeartbeats 2000000 in
/-- One entry of step `16 b + g`'s crop. -/
theorem outB_at (c : Dev nD) (b : Fin 4) (g : Fin 16) (i j : Fin 28) (hle : G0 m c (ix3 b g 1) ≤ G0 m c (ix3 b g 3))
    (hd : G0 m c (ix3 b g 3) - G0 m c (ix3 b g 1) ≤ ((511 : ℝ) : EReal)) :
    (outB (F := Ideal) (c := c) (x0 m c) (V m c main_v0) ⟨b.val * 16 + g.val, by omega⟩ : S1x28x28.Idx → EReal) (ix3 0 i j)
      = if ((1 / 2 : ℝ) : EReal) ≤ bilinE (fun (r k : Fin 800) => X0 m c (ix4 b g r k)) (ptE (G0 m c (ix3 b g 1)) (G0 m c (ix3 b g 3)) j.val)
          (ptE (G0 m c (ix3 b g 0)) (G0 m c (ix3 b g 2)) i.val) then 1 else 0 := by
  have hcor := cor_eq m c b g
  have ho := topW_le (Ideal.fptosi 32 (Ideal.liftRound Int.floor (G0 m c (ix3 b g 1))))
  have htop : top (F := Ideal) (x0 m c) ⟨b.val * 16 + g.val, by omega⟩ = (topW (Ideal.fptosi 32 (Ideal.liftRound Int.floor (G0 m c (ix3 b g 1))))).toNat := by
    show (topW (Ideal.fptosi 32 (Ideal.liftRound Int.floor (cor (F := Ideal) (x0 m c) ⟨b.val * 16 + g.val, by omega⟩ 1)))).toNat = _
    rw [hcor]
  unfold outB outC
  rw [hcor 0, hcor 1, hcor 2, hcor 3, pay4_eq]
  generalize G0 m c (ix3 b g 0) = x1 at *
  generalize G0 m c (ix3 b g 2) = x2 at *
  generalize G0 m c (ix3 b g 1) = y1 at *
  generalize G0 m c (ix3 b g 3) = y2 at *
  have hrow : ∀ y : ℝ, ptE y1 y2 j.val = y → ∀ i' : ℤ, i' = ⌊y⌋ ∨ i' = ⌊y⌋ + 1 → 0 ≤ i' → i' < (800 : ℕ) →
      (((topW (Ideal.fptosi 32 (Ideal.liftRound Int.floor y1))).toNat : ℕ) : ℤ) ≤ i' ∧ i' < (((topW (Ideal.fptosi 32 (Ideal.liftRound Int.floor y1))).toNat : ℕ) : ℤ) + (512 : ℕ) := by
    intro y hy i' h h0 h1
    obtain ⟨l, u, rfl, rfl⟩ := ptE_real y1 y2 j.val (by rw [hy]; simp)
    rw [ptE_coe] at hy
    obtain rfl : pt l u j.val = y := EReal.coe_injective hy
    exact rows_in l u (by exact_mod_cast hle) (by exact_mod_cast hd) j.val j.isLt _ (topW_real l) i' h h0 h1
  generalize (topW (Ideal.fptosi 32 (Ideal.liftRound Int.floor y1))).toNat = o at *
  have ho' : o + 512 ≤ 800 := by omega
  have hw : ∀ k : Fin 512, (k0_pay6 (F := Ideal) y1 y2 (((o : ℕ) : ℝ) : EReal) k0_pay5) (ix2 j k) = hatE (ptE y1 y2 j.val - ((o : ℝ) : EReal)) (k.val : ℝ) :=
    fun k => pay6_at y1 y2 ((o : ℝ) : EReal) j k
  rw [pay1_at _ _ _ i j (fun k => by rw [hw k]; exact Cert.Hat.hatE_fin _ _),
    ← windowE (ptE x1 x2 i.val) (ptE y1 y2 j.val) o ho' (fun (r k : Fin 800) => X0 m c (ix4 b g r k)) hrow]
  have key : ∀ x : Fin 800, (k0_pay7 (F := Ideal) x1 x2) (ix2 i x) * ∑ k : Fin 512, (k0_pay6 (F := Ideal) y1 y2 (((o : ℕ) : ℝ) : EReal) k0_pay5) (ix2 j k)
        * (blk (F := Ideal) (c := c) (x0 m c) (V m c main_v0) ⟨b.val * 16 + g.val, by omega⟩ : S1x512x800.Idx → EReal) (ix3 0 k x)
      = hatE (ptE x1 x2 i.val) (x.val : ℝ) * ∑ k : Fin 512, hatE (ptE y1 y2 j.val - ((o : ℝ) : EReal)) (k.val : ℝ) * X0 m c (ix4 b g ⟨o + k.val, by omega⟩ x) := fun x => by
    rw [pay7_at]
    refine congrArg _ (Finset.sum_congr rfl fun k _ => ?_)
    rw [hw k, blk_at (c := c) _ _ _ o htop k x (by omega), V_v0]
  rw [Finset.sum_congr rfl fun x _ => key x]

/-! ## The result -/

/-- The block of step `t` is crop `t`. -/
theorem idx : ∀ t : Fin cfg0.N, (cfg0.win 1).index t = ![t.val, 0, 0] := by
  exact (by decide +kernel : ∀ t : Fin grid0.N, (cfg0.win 1).index t = ![t.val, 0, 0])
theorem covers_1 : (cfg0.win 1).Covers := by decide +kernel

/-- What the boxes must be. -/
def Boxes : Prop := ∀ c : Dev nD, Cert.Pre_heights_in_window.fn (X0 m c) (G0 m c) = fun _ => 1#1

theorem final_1 (hT : Boxes m) (c : Dev nD) : (dats m 0 c).arrAt 1 cfg0.N = Cert.CropReferenceIdeal.Own.refCrop (X0 m c) (G0 m c) := by
  refine (dats m 0 c).arrAt_eq_of_covers 1 _ covers_1 fun t _ y => ?_
  blk_simp
  rw [after_1]
  have hN : t.val < 64 := t.isLt
  have e := idx t
  obtain ⟨i, j, hy⟩ : ∃ i j : Fin 28, y = (ix3 0 i j : S1x28x28.Idx) := ⟨(show S1x28x28.Idx from y) 1, (show S1x28x28.Idx from y) 2, by blk_ext []⟩
  subst hy
  obtain ⟨b, g, hs⟩ : ∃ (b : Fin 4) (g : Fin 16), t.val = b.val * 16 + g.val := ⟨⟨t.val / 16, by omega⟩, ⟨t.val % 16, by omega⟩, by show t.val = t.val / 16 * 16 + t.val % 16; omega⟩
  have hz : ((cfg0.win 1).blk t).view.emb (ix3 0 i j : S1x28x28.Idx) = (ix3 (⟨b.val * 16 + g.val, by omega⟩ : Fin 64) i j : S64x28x28.Idx) := by
    blk_ext [e, hs]
  have hb : Ring.bk 64 t.val = ⟨b.val * 16 + g.val, by omega⟩ := Fin.ext (by show t.val % 64 = b.val * 16 + g.val; omega)
  rw [hz, hb]
  obtain ⟨hle, hd⟩ := Cert.Boxes.pred _ _ (hT c) b g
  exact (outB_at m c b g i j hle hd).trans (Cert.CropReferenceIdeal.Own.refCrop_at (X0 m c) (G0 m c) b g i j).symm

/-- The run's result: what the call writes, in the reference's terms, and the arguments as they were. -/
theorem results (ρ : Dev nD → PrngReg) (hT : Boxes m) : θ_run (defs (F := Ideal)) (onTc (τ := τ) (main (F := Ideal))) ⟨m, fun _ => 0, ρ⟩ (fun r => ∀ c : Dev nD,
    r.2.mem ((c.tc : Thread nD τ).loc main_v2) = Cert.CropReferenceIdeal.Own.refCrop (X0 m c) (G0 m c)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨((h.1 c).1 1).trans (final_1 m hT c),
      (h.1 c).2 main_arg0 (by decide : main_arg0 ∈ Pipeline.restRefs sig spec0) |>.trans (V_main_arg0 m c),
      (h.1 c).2 main_arg1 (by decide : main_arg1 ∈ Pipeline.restRefs sig spec0) |>.trans (V_main_arg1 m c)⟩) (run_main m ρ)

end Cert.CropIdeal.Own
-- ==== Proof.CropRefRun.lean ====
/- The reference crop's run: it ends with the reference's result in place and the arguments as they were. -/
module

public import proofs.«01_k».proof.Proof.CropRef
public import Idealize.ShloMosaic.Lib.Claim

@[expose] public section

set_option maxRecDepth 16384

namespace Cert.CropReferenceIdeal.Own

open Cert.CropReferenceIdeal.Gen
open Idealize.ShloMosaic Idealize.ShloMosaic.TcCoe

set_option maxHeartbeats 16000000 in
theorem results (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v53) = refCrop (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  simp -implicitDefEqProofs only [StableHlo.TRef.toBuf, StableHlo.TRef.ofBuf, cast_cast, cast_eq]
  unfold refCrop inter take two wrap ok w1 w0 co fr gridY gridX pts offs cx1 cx2 cy1 cy2
  rfl

end Cert.CropReferenceIdeal.Own
-- ==== Proof.MatchIdealRun.lean ====
/- The ideal matching call: its host lines, its arrays, and its body run once. -/
module

public import proofs.«01_k».proof.Proof.Gen.MatchIdeal.Launch
public import proofs.«01_k».proof.Proof.Gen.MatchIdeal.Skeleton
public import proofs.«01_k».proof.Proof.Gen.MatchIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.MatchIdeal.Own

open Cert.MatchIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What core `c`'s buffers hold when the region is entered: the host lines before it have run. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- The host lines before the region allocate nothing, -/
theorem hostOps0_fresh : (hostOps0 : List (HloOp τ sig (Elt F))).Forall fun op => op.fresh = ∅ := by
  simp only [List.Forall]; repeat' constructor
/-- nor do those after it. -/
theorem hostOps1_fresh : (hostOps1 : List (HloOp τ sig (Elt F))).Forall fun op => op.fresh = ∅ := by
  simp only [List.Forall]; repeat' constructor

set_option maxHeartbeats 800000 in
/-- The program is its host lines, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch only unscoped buffers, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the region's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers that the lines after the region write: nothing is stated of them. -/
def T0 : Finset (Ref sig .tc) := {main_v7, main_v8}
/-- They write no others. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- Window `w`'s block at point `t`, of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- From a run of the region to the arguments as they were launched. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      (Pipeline.RDat.FramePostR.arr_in h c 2 rfl).trans ((hA c 2).trans (V_main_arg3 m c)),
      (Pipeline.RDat.FramePostR.arr_in h c 4 rfl).trans ((hA c 4).trans (V_main_arg4 m c)),
      (Pipeline.RDat.FramePostR.arr_in h c 5 rfl).trans ((hA c 5).trans (V_main_arg5 m c)),
      (Pipeline.RDat.FramePostR.arr_in h c 6 rfl).trans ((hA c 6).trans (V_main_arg6 m c)),
      ((h c).2 main_arg7 (Finset.mem_sdiff.mpr ⟨Pipeline.mem_restRefs_of main_arg7 (by decide) (by decide), by decide⟩)).trans (V_main_arg7 m c)⟩) h

abbrev ms0_0 (t : Fin cfg0.N) : Memref sig .tc .vmem S1x80x500 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x500 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16x500 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16x500 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16x784 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x4 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x128 .f32 := win0_9.stage (cfg0.slots t 9)
abbrev hs0_9 (t : Fin cfg0.N) : (ms0_9 t).IsWhole := hstage0_9 ((cfg0.slots t 9).cast nbuf0_9)

set_option maxHeartbeats 1000000 in
/-- The body run: from its inputs at their contents and its output at any contents, it ends with the inputs as they were and
    the output at some contents. -/
theorem kernelRun0_A (c : Dev nD) (i : grid0.Coords) (arg1 : Memref sig .tc .vmem S1x80x500 .f32) (harg1 : arg1.IsWhole) (arg2 : Memref sig .tc .vmem S1x4x500 .f32) (harg2 : arg2.IsWhole) (arg3 : Memref sig .tc .vmem S1x16x4 .f32) (harg3 : arg3.IsWhole) (arg4 : Memref sig .tc .vmem S1x16x1 .f32) (harg4 : arg4.IsWhole) (arg5 : Memref sig .tc .vmem S1x16x500 .f32) (harg5 : arg5.IsWhole) (arg6 : Memref sig .tc .vmem S1x16x500 .f32) (harg6 : arg6.IsWhole) (arg7 : Memref sig .tc .vmem S1x16x784 .f32) (harg7 : arg7.IsWhole) (arg8 : Memref sig .tc .vmem S1x4x1 .f32) (harg8 : arg8.IsWhole) (arg9 : Memref sig .tc .vmem S1x1x4 .f32) (harg9 : arg9.IsWhole) (arg10 : Memref sig .tc .vmem S1x8x128 .f32) (harg10 : arg10.IsWhole)
    (x0 : Vec F S1x80x500 .f32) (x1 : Vec F S1x4x500 .f32) (x2 : Vec F S1x16x4 .f32) (x3 : Vec F S1x16x1 .f32) (x4 : Vec F S1x16x500 .f32) (x5 : Vec F S1x16x500 .f32) (x6 : Vec F S1x16x784 .f32) (x7 : Vec F S1x4x1 .f32) (x8 : Vec F S1x1x4 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)) -∗ K ⟨⟩))
          ⊢ wp frame (wpE (defs₀ (F := F)) Variants.none c none) E (cc0_match_losses i arg1 harg1 arg2 harg2 arg3 harg3 arg4 harg4 arg5 harg5 arg6 harg6 arg7 harg7 arg8 harg8 arg9 harg9 arg10 harg10) K := by
    intro E K
    simp only [cc0_match_losses_eq_skeleton]; unfold cc0_match_losses_skel
    simp only [k0_part19_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    iexists _, _; isplitr; swap; · iexact H9
    ipureintro; rfl

end Cert.MatchIdeal.Own

end
-- ==== Proof.MatchIdealFrame.lean ====
/- The ideal matching call launched: its proof data, its body at every point, and the frame. -/
module

public import proofs.«01_k».proof.Proof.MatchIdealRun
public import Idealize.ShloMosaic.Lib.Claim

@[expose] public section

set_option maxRecDepth 16384

noncomputable section

namespace Cert.MatchIdeal.Own

open Cert.MatchIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window, of whose contents nothing is stated (the body writes five of its eight rows). -/
def forgets0 : Fin 10 → Bool := fun w => w.val == 9

/-- The proof data: each input's buffer holds its block, nothing is stated of the output's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d))

/-- and what it hands back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ d, owns (c : Thread nD τ) (ms0_9 t) fullShare d))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

/-- The body at every point, as the run of the region asks for it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl
set_option backward.isDefEq.respectTransparency.types false in
set_option maxHeartbeats 800000 in
/-- The whole program: it terminates, and every semaphore counter ends at zero. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The same without the counters. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- The frame of the call. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.MatchIdeal.Own

end
-- ==== Proof.lean ====
module

public import proofs.«01_k».proof.Defs
public import proofs.«01_k».proof.Proof.Classes
public import proofs.«01_k».proof.Proof.StatsValue
public import proofs.«01_k».proof.Proof.CropFrame
public import proofs.«01_k».proof.Proof.CropIdealFrame
public import proofs.«01_k».proof.Proof.CropBoxes
public import proofs.«01_k».proof.Proof.CropValue
public import proofs.«01_k».proof.Proof.CropRefRun
public import proofs.«01_k».proof.Proof.Gen.Pre_heights_in_window
public import proofs.«01_k».proof.Proof.Gen.Stats
public import proofs.«01_k».proof.Proof.Gen.StatsIdeal
public import proofs.«01_k».proof.Proof.Gen.ReferenceIdeal
public import proofs.«01_k».proof.Proof.Gen.Pre_classes_in_range
public import proofs.«01_k».proof.Proof.Gen.Crop
public import proofs.«01_k».proof.Proof.Gen.CropIdeal
public import proofs.«01_k».proof.Proof.Gen.CropReferenceIdeal
public import proofs.«01_k».proof.Proof.Gen.Match
public import proofs.«01_k».proof.Proof.Gen.MatchIdeal
public import proofs.«01_k».proof.Proof.MatchFrame
public import proofs.«01_k».proof.Proof.MatchIdealFrame
public import Idealize.ShloMosaic.Lib.Claim
public import Idealize.ShloMosaic.Lib.Quiescent

@[expose] public section

set_option maxRecDepth 16384

namespace Cert.Proof

open Idealize.ShloMosaic Idealize.ShloMosaic.TcCoe

theorem quiescent_Stats : Cert.quiescent_Stats := fun m g h => Cert.Stats.Own.frame m g (Cert.Classes.stats m h)

theorem quiescent_StatsIdeal : Cert.quiescent_StatsIdeal := fun m g h => Cert.StatsIdeal.Own.frame m g (Cert.Classes.statsIdeal m h)

set_option maxHeartbeats 1600000 in
theorem quiescent_ReferenceIdeal : Cert.quiescent_ReferenceIdeal := by
  intro m g _
  hlo_run
  · exact fun _ => ⟨trivial, trivial, trivial⟩
  · exact sem_eq_zero_of_no_sems (sig := Cert.ReferenceIdeal.sig) (by decide) _

theorem quiescent_ReferenceIdeal_pre : Cert.quiescent_ReferenceIdeal_pre_classes_in_range := fun m g _ => quiescent_ReferenceIdeal m g trivial

set_option maxHeartbeats 1600000 in
theorem algebraic : Cert.algebraic_StatsIdeal_ReferenceIdeal := by
  intro m g m' g' hpre hagree
  have hT := Cert.Classes.statsIdeal m hpre
  refine ⟨fun c => Cert.ReferenceIdeal.Own.refInter (Cert.StatsIdeal.Own.X0 m c) (Cert.StatsIdeal.Own.G0 m c) (Cert.StatsIdeal.Own.C0 m c),
    fun c => Cert.ReferenceIdeal.Own.refMass (Cert.StatsIdeal.Own.X0 m c) (Cert.StatsIdeal.Own.C0 m c), ?_, ?_⟩
  · exact Cert.StatsIdeal.Own.results m g hT
  · hlo_run
    · have e : Cert.StatsIdeal.Own.C0 m c = m' ((c.tc : Thread Cert.ReferenceIdeal.nD Cert.ReferenceIdeal.τ).loc Cert.ReferenceIdeal.main_arg2) := (hagree c).2.2.symm
      rw [e]
      unfold Cert.ReferenceIdeal.Own.refInter Cert.ReferenceIdeal.Own.pairs Cert.ReferenceIdeal.Own.prods Cert.ReferenceIdeal.Own.scores
        Cert.ReferenceIdeal.Own.wordsOf Cert.ReferenceIdeal.Own.boxes
      rfl
    · unfold Cert.ReferenceIdeal.Own.refMass Cert.ReferenceIdeal.Own.mass Cert.ReferenceIdeal.Own.scores Cert.ReferenceIdeal.Own.wordsOf
      rfl

theorem quiescent_Crop : Cert.quiescent_Crop := fun m g _ => Cert.Crop.Own.frame m g

theorem quiescent_CropIdeal : Cert.quiescent_CropIdeal := fun m g _ => Cert.CropIdeal.Own.frame m g

set_option maxHeartbeats 16000000 in
theorem quiescent_CropReferenceIdeal : Cert.quiescent_CropReferenceIdeal := by
  intro m g _
  hlo_run
  · exact fun _ => ⟨trivial, trivial⟩
  · exact sem_eq_zero_of_no_sems (sig := Cert.CropReferenceIdeal.sig) (by decide) _

theorem preserves_Crop : Cert.preserves_Crop_CropIdeal :=
  IdealRules.named_const.statement _ _ _ _ _ rfl

theorem algebraic_Crop : Cert.algebraic_CropIdeal_CropReferenceIdeal_pre_heights_in_window := by
  intro m g m' g' hpre hagree
  refine ⟨fun c => Cert.CropReferenceIdeal.Own.refCrop (Cert.CropIdeal.Own.X0 m c) (Cert.CropIdeal.Own.G0 m c), Cert.CropIdeal.Own.results m g hpre, ?_⟩
  refine (θ_run Cert.CropReferenceIdeal.defs _ _).mono (fun r h c => ⟨(h c).1.trans ?_, (h c).2⟩) (Cert.CropReferenceIdeal.Own.results m' g')
  exact congrArg₂ Cert.CropReferenceIdeal.Own.refCrop (hagree c).1 (hagree c).2

theorem quiescent_Match : Cert.quiescent_Match := fun m g _ => Cert.Match.Own.frame m g

theorem quiescent_MatchIdeal : Cert.quiescent_MatchIdeal := fun m g _ => Cert.MatchIdeal.Own.frame m g

theorem claim : Cert.Claim :=
  ⟨Cert.Stats.Gen.facts, Cert.StatsIdeal.Gen.facts, Cert.ReferenceIdeal.Gen.facts, Cert.Crop.Gen.facts, Cert.CropIdeal.Gen.facts,
    Cert.CropReferenceIdeal.Gen.facts, Cert.Match.Gen.facts, Cert.MatchIdeal.Gen.facts,
    Cert.Pre_classes_in_range.Gen.facts, Cert.Pre_heights_in_window.Gen.facts,
    quiescent_Stats, quiescent_StatsIdeal, quiescent_ReferenceIdeal, quiescent_ReferenceIdeal_pre, quiescent_Crop, quiescent_CropIdeal,
    fun m g _ => quiescent_CropIdeal m g trivial, quiescent_CropReferenceIdeal, fun m g _ => quiescent_CropReferenceIdeal m g trivial,
    quiescent_Match, quiescent_MatchIdeal, trivial, algebraic, preserves_Crop, algebraic_Crop, trivial⟩

end Cert.Proof
